-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S512x2048 : Shape := ⟨2, ![512, 2048]⟩
abbrev S4x256x2048 : Shape := ⟨3, ![4, 256, 2048]⟩
abbrev S3x256x2048 : Shape := ⟨3, ![3, 256, 2048]⟩
abbrev S3x512x2048 : Shape := ⟨3, ![3, 512, 2048]⟩
abbrev S4 : Shape := ⟨1, ![4]⟩
abbrev S3 : Shape := ⟨1, ![3]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S1x512x2048 : Shape := ⟨3, ![1, 512, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S1x8192x2048, .bf16⟩
  | .hbm, ⟨1, _⟩ => ⟨S8192x2048, .bf16⟩
  | .hbm, ⟨2, _⟩ => ⟨S2048, .bf16⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048, .bf16⟩
  | .local _ .vmem, ⟨3, _⟩ => ⟨S512x2048, .bf16⟩
  | .local _ .vmem, ⟨4, _⟩ => ⟨S512x2048, .bf16⟩
  | .local _ .vmem, ⟨5, _⟩ => ⟨S4x256x2048, .bf16⟩
  | .local _ .vmem, ⟨6, _⟩ => ⟨S3x256x2048, .bf16⟩
  | .local _ .vmem, ⟨7, _⟩ => ⟨S3x512x2048, .bf16⟩
  | _, _ => ⟨S1x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 3 22 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev barrier0 : Sem sig := 2

abbrev nD : Nat := 16
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_6 : BitVec 32 := 0#32
  let v16 : BitVec 1 := Scalar.cmpi .ne v15 c0_i32_6
  v16

def k0_dev1 (d0 : Dev nD) : Nat :=
  let c0_i32_102 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_101 : BitVec 32 := 8#32
  let v165 : BitVec 32 := Scalar.muli v9 c8_i32_101
  let v166 : BitVec 32 := Scalar.addi c0_i32_102 v165
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v167 : BitVec 32 := Scalar.muli v5 c4_i32_103
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v169 : BitVec 32 := Scalar.muli v8 c1_i32_104
  let v170 : BitVec 32 := Scalar.addi v168 v169
  v170.toNat
def k0_dev2 (d0 : Dev nD) : Nat :=
  let c0_i32_107 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_106 : BitVec 32 := 8#32
  let v171 : BitVec 32 := Scalar.muli v2 c8_i32_106
  let v172 : BitVec 32 := Scalar.addi c0_i32_107 v171
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_108 : BitVec 32 := 4#32
  let v173 : BitVec 32 := Scalar.muli v10 c4_i32_108
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v175 : BitVec 32 := Scalar.muli v8 c1_i32_109
  let v176 : BitVec 32 := Scalar.addi v174 v175
  v176.toNat
def k0_cond2 (i : grid0.Coords) : BitVec 1 :=
  let arg0 : BitVec 32 := BitVec.ofNat 32 (i 0).val
  let c0_i32_7 : BitVec 32 := 0#32
  let v17 : BitVec 1 := Scalar.cmpi .eq arg0 c0_i32_7
  let v18 : BitVec 32 := Scalar.extui v17
  let c0_i32_8 : BitVec 32 := 0#32
  let v19 : BitVec 1 := Scalar.cmpi .ne v18 c0_i32_8
  v19

def k0_off1 (d0 : Dev nD) : Fin 3 → Nat :=
  let c0_i32_100 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c0_i32_110 : BitVec 32 := 0#32
  ![0, v11.toNat, 0]
def k0_dev3 (d0 : Dev nD) : Nat :=
  let c0_i32_105 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_104 : BitVec 32 := 8#32
  let v164 : BitVec 32 := Scalar.muli v9 c8_i32_104
  let v165 : BitVec 32 := Scalar.addi c0_i32_105 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v166 : BitVec 32 := Scalar.muli v5 c4_i32_106
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v168 : BitVec 32 := Scalar.muli v8 c1_i32_107
  let v169 : BitVec 32 := Scalar.addi v167 v168
  v169.toNat
def k0_cond4 (i : grid0.Coords) : BitVec 1 :=
  let arg0 : BitVec 32 := BitVec.ofNat 32 (i 0).val
  let c1_i32_9 : BitVec 32 := 1#32
  let v20 : BitVec 32 := Scalar.addi arg0 c1_i32_9
  let c15_i32_19 : BitVec 32 := 15#32
  let v39 : BitVec 1 := Scalar.cmpi .sle v20 c15_i32_19
  let v40 : BitVec 32 := Scalar.extui v39
  let c0_i32_21 : BitVec 32 := 0#32
  let v41 : BitVec 1 := Scalar.cmpi .ne v40 c0_i32_21
  v41

def k0_off2 (i : grid0.Coords) : Fin 1 → Nat :=
  let arg0 : BitVec 32 := BitVec.ofNat 32 (i 0).val
  let c1_i32_9 : BitVec 32 := 1#32
  let v20 : BitVec 32 := Scalar.addi arg0 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v20 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  ![v31.toNat]
def k0_off3 (i : grid0.Coords) : Fin 3 → Nat :=
  let arg0 : BitVec 32 := BitVec.ofNat 32 (i 0).val
  let c1_i32_9 : BitVec 32 := 1#32
  let v20 : BitVec 32 := Scalar.addi arg0 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v20 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c0_i32_104 : BitVec 32 := 0#32
  let c0_i32_105 : BitVec 32 := 0#32
  ![v31.toNat, 0, 0]
def k0_off4 (i : grid0.Coords) (d0 : Dev nD) : Fin 3 → Nat :=
  let c0_i32_20 : BitVec 32 := 0#32
  let arg0 : BitVec 32 := BitVec.ofNat 32 (i 0).val
  let c1_i32_9 : BitVec 32 := 1#32
  let v20 : BitVec 32 := Scalar.addi arg0 c1_i32_9
  let c15_i32 : BitVec 32 := 15#32
  let v21 : BitVec 32 := Scalar.minsi v20 c15_i32
  let c512_i32 : BitVec 32 := 512#32
  let v37 : BitVec 32 := Scalar.muli v21 c512_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v38 : BitVec 32 := Scalar.addi v37 v11
  let c0_i32_106 : BitVec 32 := 0#32
  ![0, v38.toNat, 0]
def k0_dev4 (d0 : Dev nD) : Nat :=
  let c0_i32_101 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_100 : BitVec 32 := 8#32
  let v164 : BitVec 32 := Scalar.muli v9 c8_i32_100
  let v165 : BitVec 32 := Scalar.addi c0_i32_101 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v166 : BitVec 32 := Scalar.muli v5 c4_i32_102
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v168 : BitVec 32 := Scalar.muli v8 c1_i32_103
  let v169 : BitVec 32 := Scalar.addi v167 v168
  v169.toNat
def k0_cond5 (i : grid0.Coords) : BitVec 1 :=
  let arg0 : BitVec 32 := BitVec.ofNat 32 (i 0).val
  let c15_i32_35 : BitVec 32 := 15#32
  let v64 : BitVec 1 := Scalar.cmpi .sle arg0 c15_i32_35
  let v65 : BitVec 32 := Scalar.extui v64
  let c0_i32_37 : BitVec 32 := 0#32
  let v66 : BitVec 1 := Scalar.cmpi .ne v65 c0_i32_37
  v66

def k0_off5 (i : grid0.Coords) : Fin 1 → Nat :=
  let arg0 : BitVec 32 := BitVec.ofNat 32 (i 0).val
  let c3_i32_29 : BitVec 32 := 3#32
  let c0_i32_30 : BitVec 32 := 0#32
  let v54 : BitVec 1 := Scalar.cmpi .eq c3_i32_29 c0_i32_30
  let c1_i32_31 : BitVec 32 := 1#32
  let v55 : BitVec 32 := Scalar.select v54 c1_i32_31 c3_i32_29
  let v56 : BitVec 32 := Scalar.remsi arg0 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  ![v63.toNat]
def k0_off6 (i : grid0.Coords) : Fin 3 → Nat :=
  let arg0 : BitVec 32 := BitVec.ofNat 32 (i 0).val
  let c3_i32 : BitVec 32 := 3#32
  let c0_i32_24 : BitVec 32 := 0#32
  let v44 : BitVec 1 := Scalar.cmpi .eq c3_i32 c0_i32_24
  let c1_i32_25 : BitVec 32 := 1#32
  let v45 : BitVec 32 := Scalar.select v44 c1_i32_25 c3_i32
  let v46 : BitVec 32 := Scalar.remsi arg0 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_100 : BitVec 32 := 0#32
  let c0_i32_101 : BitVec 32 := 0#32
  ![v53.toNat, 0, 0]
def k0_off7 (i : grid0.Coords) : Fin 3 → Nat :=
  let c0_i32_36 : BitVec 32 := 0#32
  let arg0 : BitVec 32 := BitVec.ofNat 32 (i 0).val
  let c15_i32_22 : BitVec 32 := 15#32
  let v42 : BitVec 32 := Scalar.minsi arg0 c15_i32_22
  let c512_i32_23 : BitVec 32 := 512#32
  let v43 : BitVec 32 := Scalar.muli v42 c512_i32_23
  let c0_i32_102 : BitVec 32 := 0#32
  ![0, v43.toNat, 0]
def k0_cond7 (i : grid0.Coords) : BitVec 1 :=
  let arg0 : BitVec 32 := BitVec.ofNat 32 (i 0).val
  let c1_i32_58 : BitVec 32 := 1#32
  let v99 : BitVec 1 := Scalar.cmpi .sge arg0 c1_i32_58
  let c16_i32_59 : BitVec 32 := 16#32
  let v100 : BitVec 1 := Scalar.cmpi .sle arg0 c16_i32_59
  let v101 : BitVec 1 := Scalar.andi v99 v100
  let v102 : BitVec 32 := Scalar.extui v101
  let c0_i32_61 : BitVec 32 := 0#32
  let v103 : BitVec 1 := Scalar.cmpi .ne v102 c0_i32_61
  v103

def k0_off8 (i : grid0.Coords) : Fin 1 → Nat :=
  let arg0 : BitVec 32 := BitVec.ofNat 32 (i 0).val
  let c1_i32_40 : BitVec 32 := 1#32
  let v69 : BitVec 32 := Scalar.subi arg0 c1_i32_40
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  ![v79.toNat]
def k0_off9 (i : grid0.Coords) (d0 : Dev nD) : Fin 3 → Nat :=
  let c0_i32_60 : BitVec 32 := 0#32
  let arg0 : BitVec 32 := BitVec.ofNat 32 (i 0).val
  let c1_i32_38 : BitVec 32 := 1#32
  let v67 : BitVec 32 := Scalar.subi arg0 c1_i32_38
  let c0_i32_39 : BitVec 32 := 0#32
  let v68 : BitVec 32 := Scalar.maxsi v67 c0_i32_39
  let c512_i32_54 : BitVec 32 := 512#32
  let v91 : BitVec 32 := Scalar.muli v68 c512_i32_54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v92 : BitVec 32 := Scalar.addi v91 v11
  let c0_i32_101 : BitVec 32 := 0#32
  ![0, v92.toNat, 0]
def k0_off10 (i : grid0.Coords) : Fin 3 → Nat :=
  let arg0 : BitVec 32 := BitVec.ofNat 32 (i 0).val
  let c1_i32_40 : BitVec 32 := 1#32
  let v69 : BitVec 32 := Scalar.subi arg0 c1_i32_40
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c0_i32_102 : BitVec 32 := 0#32
  let c0_i32_103 : BitVec 32 := 0#32
  ![v79.toNat, 0, 0]
def k0_off11 (i : grid0.Coords) : Fin 1 → Nat :=
  let arg0 : BitVec 32 := BitVec.ofNat 32 (i 0).val
  let c1_i32_47 : BitVec 32 := 1#32
  let v80 : BitVec 32 := Scalar.subi arg0 c1_i32_47
  let c3_i32_48 : BitVec 32 := 3#32
  let c0_i32_49 : BitVec 32 := 0#32
  let v81 : BitVec 1 := Scalar.cmpi .eq c3_i32_48 c0_i32_49
  let c1_i32_50 : BitVec 32 := 1#32
  let v82 : BitVec 32 := Scalar.select v81 c1_i32_50 c3_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  ![v90.toNat]
def k0_off12 (i : grid0.Coords) : Fin 3 → Nat :=
  let arg0 : BitVec 32 := BitVec.ofNat 32 (i 0).val
  let c1_i32_47 : BitVec 32 := 1#32
  let v80 : BitVec 32 := Scalar.subi arg0 c1_i32_47
  let c3_i32_48 : BitVec 32 := 3#32
  let c0_i32_49 : BitVec 32 := 0#32
  let v81 : BitVec 1 := Scalar.cmpi .eq c3_i32_48 c0_i32_49
  let c1_i32_50 : BitVec 32 := 1#32
  let v82 : BitVec 32 := Scalar.select v81 c1_i32_50 c3_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c0_i32_115 : BitVec 32 := 0#32
  let c0_i32_116 : BitVec 32 := 0#32
  ![v90.toNat, 0, 0]
def k0_dev5 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v182 : BitVec 32 := Scalar.muli v2 c8_i32_111
  let v183 : BitVec 32 := Scalar.addi c0_i32_112 v182
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_113 : BitVec 32 := 4#32
  let v184 : BitVec 32 := Scalar.muli v10 c4_i32_113
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v186 : BitVec 32 := Scalar.muli v8 c1_i32_114
  let v187 : BitVec 32 := Scalar.addi v185 v186
  v187.toNat
def k0_cond8 (i : grid0.Coords) : BitVec 1 :=
  let arg0 : BitVec 32 := BitVec.ofNat 32 (i 0).val
  let c2_i32_93 : BitVec 32 := 2#32
  let v151 : BitVec 1 := Scalar.cmpi .sge arg0 c2_i32_93
  let v152 : BitVec 32 := Scalar.extui v151
  let c0_i32_95 : BitVec 32 := 0#32
  let v153 : BitVec 1 := Scalar.cmpi .ne v152 c0_i32_95
  v153

def k0_off13 (i : grid0.Coords) : Fin 1 → Nat :=
  let arg0 : BitVec 32 := BitVec.ofNat 32 (i 0).val
  let c2_i32_86 : BitVec 32 := 2#32
  let v140 : BitVec 32 := Scalar.subi arg0 c2_i32_86
  let c3_i32_87 : BitVec 32 := 3#32
  let c0_i32_88 : BitVec 32 := 0#32
  let v141 : BitVec 1 := Scalar.cmpi .eq c3_i32_87 c0_i32_88
  let c1_i32_89 : BitVec 32 := 1#32
  let v142 : BitVec 32 := Scalar.select v141 c1_i32_89 c3_i32_87
  let v143 : BitVec 32 := Scalar.remsi v140 v142
  let c0_i32_91 : BitVec 32 := 0#32
  let v145 : BitVec 1 := Scalar.cmpi .slt v143 c0_i32_91
  let c0_i32_92 : BitVec 32 := 0#32
  let v146 : BitVec 1 := Scalar.cmpi .slt v142 c0_i32_92
  let v147 : BitVec 1 := Scalar.xori v145 v146
  let c0_i32_90 : BitVec 32 := 0#32
  let v144 : BitVec 1 := Scalar.cmpi .ne v143 c0_i32_90
  let v148 : BitVec 1 := Scalar.andi v147 v144
  let v149 : BitVec 32 := Scalar.addi v143 v142
  let v150 : BitVec 32 := Scalar.select v148 v149 v143
  ![v150.toNat]
def k0_off14 (i : grid0.Coords) : Fin 3 → Nat :=
  let arg0 : BitVec 32 := BitVec.ofNat 32 (i 0).val
  let c2_i32_79 : BitVec 32 := 2#32
  let v129 : BitVec 32 := Scalar.subi arg0 c2_i32_79
  let c3_i32_80 : BitVec 32 := 3#32
  let c0_i32_81 : BitVec 32 := 0#32
  let v130 : BitVec 1 := Scalar.cmpi .eq c3_i32_80 c0_i32_81
  let c1_i32_82 : BitVec 32 := 1#32
  let v131 : BitVec 32 := Scalar.select v130 c1_i32_82 c3_i32_80
  let v132 : BitVec 32 := Scalar.remsi v129 v131
  let c0_i32_84 : BitVec 32 := 0#32
  let v134 : BitVec 1 := Scalar.cmpi .slt v132 c0_i32_84
  let c0_i32_85 : BitVec 32 := 0#32
  let v135 : BitVec 1 := Scalar.cmpi .slt v131 c0_i32_85
  let v136 : BitVec 1 := Scalar.xori v134 v135
  let c0_i32_83 : BitVec 32 := 0#32
  let v133 : BitVec 1 := Scalar.cmpi .ne v132 c0_i32_83
  let v137 : BitVec 1 := Scalar.andi v136 v133
  let v138 : BitVec 32 := Scalar.addi v132 v131
  let v139 : BitVec 32 := Scalar.select v137 v138 v132
  let c0_i32_100 : BitVec 32 := 0#32
  let c0_i32_101 : BitVec 32 := 0#32
  ![v139.toNat, 0, 0]
def k0_off15 (i : grid0.Coords) : Fin 3 → Nat :=
  let c0_i32_94 : BitVec 32 := 0#32
  let arg0 : BitVec 32 := BitVec.ofNat 32 (i 0).val
  let c2_i32_76 : BitVec 32 := 2#32
  let v126 : BitVec 32 := Scalar.subi arg0 c2_i32_76
  let c0_i32_77 : BitVec 32 := 0#32
  let v127 : BitVec 32 := Scalar.maxsi v126 c0_i32_77
  let c512_i32_78 : BitVec 32 := 512#32
  let v128 : BitVec 32 := Scalar.muli v127 c512_i32_78
  let c0_i32_102 : BitVec 32 := 0#32
  ![0, v128.toNat, 0]
def k0_off16 (i : grid0.Coords) (d0 : Dev nD) : Fin 3 → Nat :=
  let arg0 : BitVec 32 := BitVec.ofNat 32 (i 0).val
  let c2_i32_103 : BitVec 32 := 2#32
  let v170 : BitVec 32 := Scalar.subi arg0 c2_i32_103
  let c3_i32_104 : BitVec 32 := 3#32
  let c0_i32_105 : BitVec 32 := 0#32
  let v171 : BitVec 1 := Scalar.cmpi .eq c3_i32_104 c0_i32_105
  let c1_i32_106 : BitVec 32 := 1#32
  let v172 : BitVec 32 := Scalar.select v171 c1_i32_106 c3_i32_104
  let v173 : BitVec 32 := Scalar.remsi v170 v172
  let c0_i32_108 : BitVec 32 := 0#32
  let v175 : BitVec 1 := Scalar.cmpi .slt v173 c0_i32_108
  let c0_i32_109 : BitVec 32 := 0#32
  let v176 : BitVec 1 := Scalar.cmpi .slt v172 c0_i32_109
  let v177 : BitVec 1 := Scalar.xori v175 v176
  let c0_i32_107 : BitVec 32 := 0#32
  let v174 : BitVec 1 := Scalar.cmpi .ne v173 c0_i32_107
  let v178 : BitVec 1 := Scalar.andi v177 v174
  let v179 : BitVec 32 := Scalar.addi v173 v172
  let v180 : BitVec 32 := Scalar.select v178 v179 v173
  let v181 : Index := Scalar.indexCast v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v182 : Index := Scalar.indexCast v11
  let c0 : Index := 0#32
  ![v181.toNat, v182.toNat, 0]
def k0_off17 (i : grid0.Coords) : Fin 3 → Nat :=
  let arg0 : BitVec 32 := BitVec.ofNat 32 (i 0).val
  let c2_i32_62 : BitVec 32 := 2#32
  let v104 : BitVec 32 := Scalar.subi arg0 c2_i32_62
  let c4_i32_63 : BitVec 32 := 4#32
  let c0_i32_64 : BitVec 32 := 0#32
  let v105 : BitVec 1 := Scalar.cmpi .eq c4_i32_63 c0_i32_64
  let c1_i32_65 : BitVec 32 := 1#32
  let v106 : BitVec 32 := Scalar.select v105 c1_i32_65 c4_i32_63
  let v107 : BitVec 32 := Scalar.remsi v104 v106
  let c0_i32_67 : BitVec 32 := 0#32
  let v109 : BitVec 1 := Scalar.cmpi .slt v107 c0_i32_67
  let c0_i32_68 : BitVec 32 := 0#32
  let v110 : BitVec 1 := Scalar.cmpi .slt v106 c0_i32_68
  let v111 : BitVec 1 := Scalar.xori v109 v110
  let c0_i32_66 : BitVec 32 := 0#32
  let v108 : BitVec 1 := Scalar.cmpi .ne v107 c0_i32_66
  let v112 : BitVec 1 := Scalar.andi v111 v108
  let v113 : BitVec 32 := Scalar.addi v107 v106
  let v114 : BitVec 32 := Scalar.select v112 v113 v107
  let v186 : Index := Scalar.indexCast v114
  let c0_110 : Index := 0#32
  let c0_111 : Index := 0#32
  ![v186.toNat, 0, 0]
def k0_off18 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v191 : Index := Scalar.indexCast v11
  let c0_112 : Index := 0#32
  ![v191.toNat, 0]
def k0_off19 (i : grid0.Coords) : Fin 3 → Nat :=
  let arg0 : BitVec 32 := BitVec.ofNat 32 (i 0).val
  let c2_i32_69 : BitVec 32 := 2#32
  let v115 : BitVec 32 := Scalar.subi arg0 c2_i32_69
  let c3_i32_70 : BitVec 32 := 3#32
  let c0_i32_71 : BitVec 32 := 0#32
  let v116 : BitVec 1 := Scalar.cmpi .eq c3_i32_70 c0_i32_71
  let c1_i32_72 : BitVec 32 := 1#32
  let v117 : BitVec 32 := Scalar.select v116 c1_i32_72 c3_i32_70
  let v118 : BitVec 32 := Scalar.remsi v115 v117
  let c0_i32_74 : BitVec 32 := 0#32
  let v120 : BitVec 1 := Scalar.cmpi .slt v118 c0_i32_74
  let c0_i32_75 : BitVec 32 := 0#32
  let v121 : BitVec 1 := Scalar.cmpi .slt v117 c0_i32_75
  let v122 : BitVec 1 := Scalar.xori v120 v121
  let c0_i32_73 : BitVec 32 := 0#32
  let v119 : BitVec 1 := Scalar.cmpi .ne v118 c0_i32_73
  let v123 : BitVec 1 := Scalar.andi v122 v119
  let v124 : BitVec 32 := Scalar.addi v118 v117
  let v125 : BitVec 32 := Scalar.select v123 v124 v118
  let c0_i32_121 : BitVec 32 := 0#32
  let c0_i32_122 : BitVec 32 := 0#32
  ![v125.toNat, 0, 0]
def k0_off20 (i : grid0.Coords) : Fin 3 → Nat :=
  let arg0 : BitVec 32 := BitVec.ofNat 32 (i 0).val
  let c2_i32_62 : BitVec 32 := 2#32
  let v104 : BitVec 32 := Scalar.subi arg0 c2_i32_62
  let c4_i32_63 : BitVec 32 := 4#32
  let c0_i32_64 : BitVec 32 := 0#32
  let v105 : BitVec 1 := Scalar.cmpi .eq c4_i32_63 c0_i32_64
  let c1_i32_65 : BitVec 32 := 1#32
  let v106 : BitVec 32 := Scalar.select v105 c1_i32_65 c4_i32_63
  let v107 : BitVec 32 := Scalar.remsi v104 v106
  let c0_i32_67 : BitVec 32 := 0#32
  let v109 : BitVec 1 := Scalar.cmpi .slt v107 c0_i32_67
  let c0_i32_68 : BitVec 32 := 0#32
  let v110 : BitVec 1 := Scalar.cmpi .slt v106 c0_i32_68
  let v111 : BitVec 1 := Scalar.xori v109 v110
  let c0_i32_66 : BitVec 32 := 0#32
  let v108 : BitVec 1 := Scalar.cmpi .ne v107 c0_i32_66
  let v112 : BitVec 1 := Scalar.andi v111 v108
  let v113 : BitVec 32 := Scalar.addi v107 v106
  let v114 : BitVec 32 := Scalar.select v112 v113 v107
  let c0_i32_123 : BitVec 32 := 0#32
  let c0_i32_124 : BitVec 32 := 0#32
  ![v114.toNat, 0, 0]
def k0_off21 (i : grid0.Coords) (d0 : Dev nD) : Fin 3 → Nat :=
  let arg0 : BitVec 32 := BitVec.ofNat 32 (i 0).val
  let c2_i32_125 : BitVec 32 := 2#32
  let v227 : BitVec 32 := Scalar.subi arg0 c2_i32_125
  let c3_i32_126 : BitVec 32 := 3#32
  let c0_i32_127 : BitVec 32 := 0#32
  let v228 : BitVec 1 := Scalar.cmpi .eq c3_i32_126 c0_i32_127
  let c1_i32_128 : BitVec 32 := 1#32
  let v229 : BitVec 32 := Scalar.select v228 c1_i32_128 c3_i32_126
  let v230 : BitVec 32 := Scalar.remsi v227 v229
  let c0_i32_130 : BitVec 32 := 0#32
  let v232 : BitVec 1 := Scalar.cmpi .slt v230 c0_i32_130
  let c0_i32_131 : BitVec 32 := 0#32
  let v233 : BitVec 1 := Scalar.cmpi .slt v229 c0_i32_131
  let v234 : BitVec 1 := Scalar.xori v232 v233
  let c0_i32_129 : BitVec 32 := 0#32
  let v231 : BitVec 1 := Scalar.cmpi .ne v230 c0_i32_129
  let v235 : BitVec 1 := Scalar.andi v234 v231
  let v236 : BitVec 32 := Scalar.addi v230 v229
  let v237 : BitVec 32 := Scalar.select v235 v236 v230
  let v238 : Index := Scalar.indexCast v237
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c256_i32_5 : BitVec 32 := 256#32
  let v13 : BitVec 32 := Scalar.muli v12 c256_i32_5
  let v239 : Index := Scalar.indexCast v13
  let c0_132 : Index := 0#32
  ![v238.toNat, v239.toNat, 0]
def k0_off22 (i : grid0.Coords) : Fin 3 → Nat :=
  let arg0 : BitVec 32 := BitVec.ofNat 32 (i 0).val
  let c2_i32_69 : BitVec 32 := 2#32
  let v115 : BitVec 32 := Scalar.subi arg0 c2_i32_69
  let c3_i32_70 : BitVec 32 := 3#32
  let c0_i32_71 : BitVec 32 := 0#32
  let v116 : BitVec 1 := Scalar.cmpi .eq c3_i32_70 c0_i32_71
  let c1_i32_72 : BitVec 32 := 1#32
  let v117 : BitVec 32 := Scalar.select v116 c1_i32_72 c3_i32_70
  let v118 : BitVec 32 := Scalar.remsi v115 v117
  let c0_i32_74 : BitVec 32 := 0#32
  let v120 : BitVec 1 := Scalar.cmpi .slt v118 c0_i32_74
  let c0_i32_75 : BitVec 32 := 0#32
  let v121 : BitVec 1 := Scalar.cmpi .slt v117 c0_i32_75
  let v122 : BitVec 1 := Scalar.xori v120 v121
  let c0_i32_73 : BitVec 32 := 0#32
  let v119 : BitVec 1 := Scalar.cmpi .ne v118 c0_i32_73
  let v123 : BitVec 1 := Scalar.andi v122 v119
  let v124 : BitVec 32 := Scalar.addi v118 v117
  let v125 : BitVec 32 := Scalar.select v123 v124 v118
  let v243 : Index := Scalar.indexCast v125
  let c0_133 : Index := 0#32
  let c0_134 : Index := 0#32
  ![v243.toNat, 0, 0]
def k0_off23 (d0 : Dev nD) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c256_i32_5 : BitVec 32 := 256#32
  let v13 : BitVec 32 := Scalar.muli v12 c256_i32_5
  let v248 : Index := Scalar.indexCast v13
  let c0_135 : Index := 0#32
  ![v248.toNat, 0]
def k0_cond9 (i : grid0.Coords) : BitVec 1 :=
  let arg0 : BitVec 32 := BitVec.ofNat 32 (i 0).val
  let c2_i32_96 : BitVec 32 := 2#32
  let v154 : BitVec 1 := Scalar.cmpi .sge arg0 c2_i32_96
  let c13_i32 : BitVec 32 := 13#32
  let v155 : BitVec 1 := Scalar.cmpi .sle arg0 c13_i32
  let v156 : BitVec 1 := Scalar.andi v154 v155
  let v157 : BitVec 32 := Scalar.extui v156
  let c0_i32_97 : BitVec 32 := 0#32
  let v158 : BitVec 1 := Scalar.cmpi .ne v157 c0_i32_97
  v158

def k0_dev6 (d0 : Dev nD) : Nat :=
  let c0_i32_102 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_101 : BitVec 32 := 8#32
  let v164 : BitVec 32 := Scalar.muli v9 c8_i32_101
  let v165 : BitVec 32 := Scalar.addi c0_i32_102 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v166 : BitVec 32 := Scalar.muli v5 c4_i32_103
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v168 : BitVec 32 := Scalar.muli v8 c1_i32_104
  let v169 : BitVec 32 := Scalar.addi v167 v168
  v169.toNat
def k0_cond10 (i : grid0.Coords) : BitVec 1 :=
  let arg0 : BitVec 32 := BitVec.ofNat 32 (i 0).val
  let c2_i32_98 : BitVec 32 := 2#32
  let v159 : BitVec 1 := Scalar.cmpi .sge arg0 c2_i32_98
  let c14_i32 : BitVec 32 := 14#32
  let v160 : BitVec 1 := Scalar.cmpi .sle arg0 c14_i32
  let v161 : BitVec 1 := Scalar.andi v159 v160
  let v162 : BitVec 32 := Scalar.extui v161
  let c0_i32_99 : BitVec 32 := 0#32
  let v163 : BitVec 1 := Scalar.cmpi .ne v162 c0_i32_99
  v163

def k0_dev7 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v164 : BitVec 32 := Scalar.muli v2 c8_i32_101
  let v165 : BitVec 32 := Scalar.addi c0_i32_102 v164
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_103 : BitVec 32 := 4#32
  let v166 : BitVec 32 := Scalar.muli v10 c4_i32_103
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v168 : BitVec 32 := Scalar.muli v8 c1_i32_104
  let v169 : BitVec 32 := Scalar.addi v167 v168
  v169.toNat
def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S8192x2048, .bf16⟩
  | .hbm, ⟨2, _⟩ => ⟨S2048, .bf16⟩
  | .hbm, ⟨3, _⟩ => ⟨S2x8192x2048, .f32⟩
  | .hbm, ⟨4, _⟩ => ⟨S8192x2048, .f32⟩
  | .hbm, ⟨5, _⟩ => ⟨S2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Closed.lean ====
/- The conditions, offsets and peers of the printed kernel in closed form, by grid step and device. -/
module

public import proofs.«01_k».proof.Proof.Gen.KernelIdeal.Skeleton

@[expose] public section

set_option maxRecDepth 65536

noncomputable section

namespace Cert.KernelIdeal.Gen

open Idealize.ShloMosaic Idealize.SL.Sem

/-! ## Conditions -/

/-- The barrier exchange runs at the first step only. -/
theorem cond1_iff : ∀ i : grid0.Coords, (k0_cond1 i = 1#1) ↔ (i 0).val = 0 := by decide +kernel
/-- The first row exchange is started at the first step only. -/
theorem cond2_iff : ∀ i : grid0.Coords, (k0_cond2 i = 1#1) ↔ (i 0).val = 0 := by decide +kernel
/-- A step starts the next block's row exchange while a next block exists. -/
theorem cond4_iff : ∀ i : grid0.Coords, (k0_cond4 i = 1#1) ↔ (i 0).val ≤ 14 := by decide +kernel
/-- A step copies its own block while it names one. -/
theorem cond5_iff : ∀ i : grid0.Coords, (k0_cond5 i = 1#1) ↔ (i 0).val ≤ 15 := by decide +kernel
/-- The previous block is forwarded while there is one. -/
theorem cond7_iff : ∀ i : grid0.Coords, (k0_cond7 i = 1#1) ↔ 1 ≤ (i 0).val ∧ (i 0).val ≤ 16 := by decide +kernel
/-- A block is finished from the third step on. -/
theorem cond8_iff : ∀ i : grid0.Coords, (k0_cond8 i = 1#1) ↔ 2 ≤ (i 0).val := by decide +kernel
/-- A row slot is handed back while a later block wants it. -/
theorem cond9_iff : ∀ i : grid0.Coords, (k0_cond9 i = 1#1) ↔ 2 ≤ (i 0).val ∧ (i 0).val ≤ 13 := by decide +kernel
/-- A forwarded slot is handed back while a later block wants it. -/
theorem cond10_iff : ∀ i : grid0.Coords, (k0_cond10 i = 1#1) ↔ 2 ≤ (i 0).val ∧ (i 0).val ≤ 14 := by decide +kernel

/-- The condition under which a step waits for a row slot, as the program computes it. -/
theorem cond3_iff : ∀ i : grid0.Coords,
    (Scalar.cmpi .ne (Scalar.extui (Scalar.andi (Scalar.cmpi .sge (Scalar.addi (BitVec.ofNat 32 (i 0).val) 1#32) 4#32)
        (Scalar.cmpi .sle (Scalar.addi (BitVec.ofNat 32 (i 0).val) 1#32) 15#32)) : BitVec 32) 0#32 = 1#1)
      ↔ 3 ≤ (i 0).val ∧ (i 0).val ≤ 14 := by decide +kernel
/-- The condition under which a step waits for a forwarded slot, as the program computes it. -/
theorem cond6_iff : ∀ i : grid0.Coords,
    (Scalar.cmpi .ne (Scalar.extui (Scalar.andi (Scalar.cmpi .sge (Scalar.subi (BitVec.ofNat 32 (i 0).val) 1#32) 3#32)
        (Scalar.cmpi .sle (BitVec.ofNat 32 (i 0).val) 16#32)) : BitVec 32) 0#32 = 1#1)
      ↔ 4 ≤ (i 0).val ∧ (i 0).val ≤ 16 := by decide +kernel

/-! ## Offsets -/

/-- Step `t` names the row cells of block `t + 1` … -/
theorem off2_at : ∀ i : grid0.Coords, (i 0).val ≤ 14 → k0_off2 i = ![((i 0).val + 1) % 4] := by decide +kernel
/-- … its row slot … -/
theorem off3_at : ∀ i : grid0.Coords, (i 0).val ≤ 14 → k0_off3 i = ![((i 0).val + 1) % 4, 0, 0] := by decide +kernel
/-- … and its rows of the operand. -/
theorem off4_at : ∀ (i : grid0.Coords) (d : Dev nD), (i 0).val ≤ 14 →
    k0_off4 i d = ![0, 512 * ((i 0).val + 1) + 256 * ((d.val / 4) % 2), 0] := by
  intro i d h; rw [k0_off4_eq, Nat.min_eq_left (by omega)]
/-- Step `t` names the copy cell of block `t` … -/
theorem off5_at : ∀ i : grid0.Coords, (i 0).val ≤ 15 → k0_off5 i = ![(i 0).val % 3] := by decide +kernel
/-- … its copy slot … -/
theorem off6_at : ∀ i : grid0.Coords, (i 0).val ≤ 15 → k0_off6 i = ![(i 0).val % 3, 0, 0] := by decide +kernel
/-- … and its rows of the operand. -/
theorem off7_at : ∀ i : grid0.Coords, (i 0).val ≤ 15 → k0_off7 i = ![0, 512 * (i 0).val, 0] := by
  intro i h; rw [k0_off7_eq, Nat.min_eq_left h]
/-- Step `t` names the row cells of block `t - 1` … -/
theorem off8_at : ∀ i : grid0.Coords, 1 ≤ (i 0).val → (i 0).val ≤ 16 → k0_off8 i = ![((i 0).val - 1) % 4] := by decide +kernel
/-- … its row slot … -/
theorem off10_at : ∀ i : grid0.Coords, 1 ≤ (i 0).val → (i 0).val ≤ 16 → k0_off10 i = ![((i 0).val - 1) % 4, 0, 0] := by decide +kernel
/-- … its forwarding cells … -/
theorem off11_at : ∀ i : grid0.Coords, 1 ≤ (i 0).val → (i 0).val ≤ 16 → k0_off11 i = ![((i 0).val - 1) % 3] := by decide +kernel
/-- … and its forwarding slot. -/
theorem off12_at : ∀ i : grid0.Coords, 1 ≤ (i 0).val → (i 0).val ≤ 16 → k0_off12 i = ![((i 0).val - 1) % 3, 0, 0] := by decide +kernel
/-- Step `t` names the copy and forwarding cells of block `t - 2` … -/
theorem off13_at : ∀ i : grid0.Coords, 2 ≤ (i 0).val → k0_off13 i = ![((i 0).val - 2) % 3] := by decide +kernel
/-- … its copy slot … -/
theorem off14_at : ∀ i : grid0.Coords, 2 ≤ (i 0).val → k0_off14 i = ![((i 0).val - 2) % 3, 0, 0] := by decide +kernel
/-- … the half of it the device's own rows fill … -/
theorem off16_at : ∀ (i : grid0.Coords) (d : Dev nD), 2 ≤ (i 0).val →
    k0_off16 i d = ![((i 0).val - 2) % 3, 256 * ((d.val / 4) % 2), 0] := by decide +kernel
/-- … its row slot … -/
theorem off17_at : ∀ i : grid0.Coords, 2 ≤ (i 0).val → k0_off17 i = ![((i 0).val - 2) % 4, 0, 0] := by decide +kernel
/-- … its forwarding slot … -/
theorem off19_at : ∀ i : grid0.Coords, 2 ≤ (i 0).val → k0_off19 i = ![((i 0).val - 2) % 3, 0, 0] := by decide +kernel
/-- … the row slot again … -/
theorem off20_at : ∀ i : grid0.Coords, 2 ≤ (i 0).val → k0_off20 i = ![((i 0).val - 2) % 4, 0, 0] := by decide +kernel
/-- … the other half of the copy slot … -/
theorem off21_at : ∀ (i : grid0.Coords) (d : Dev nD), 2 ≤ (i 0).val →
    k0_off21 i d = ![((i 0).val - 2) % 3, 256 - 256 * ((d.val / 4) % 2), 0] := by decide +kernel
/-- … and the forwarding slot again. -/
theorem off22_at : ∀ i : grid0.Coords, 2 ≤ (i 0).val → k0_off22 i = ![((i 0).val - 2) % 3, 0, 0] := by decide +kernel

/-! ## Peers -/

/-- The device whose first mesh coordinate is the other one. -/
def xp (c : Dev nD) : Dev nD := ⟨(c.val + 8) % 16, Nat.mod_lt _ (by decide)⟩
/-- The device whose second mesh coordinate is the other one. -/
def yp (c : Dev nD) : Dev nD := ⟨8 * (c.val / 8) + (c.val + 4) % 8, by have := c.isLt; simp only [nD] at *; omega⟩

theorem dev1_eq (c : Dev nD) (h : k0_dev1 c < nD) : (⟨k0_dev1 c, h⟩ : Dev nD) = xp c := by revert c; decide +kernel
theorem dev2_eq (c : Dev nD) (h : k0_dev2 c < nD) : (⟨k0_dev2 c, h⟩ : Dev nD) = yp c := by revert c; decide +kernel
theorem dev3_eq (c : Dev nD) (h : k0_dev3 c < nD) : (⟨k0_dev3 c, h⟩ : Dev nD) = xp c := by revert c; decide +kernel
theorem dev4_eq (c : Dev nD) (h : k0_dev4 c < nD) : (⟨k0_dev4 c, h⟩ : Dev nD) = xp c := by revert c; decide +kernel
theorem dev5_eq (c : Dev nD) (h : k0_dev5 c < nD) : (⟨k0_dev5 c, h⟩ : Dev nD) = yp c := by revert c; decide +kernel
theorem dev6_eq (c : Dev nD) (h : k0_dev6 c < nD) : (⟨k0_dev6 c, h⟩ : Dev nD) = xp c := by revert c; decide +kernel
theorem dev7_eq (c : Dev nD) (h : k0_dev7 c < nD) : (⟨k0_dev7 c, h⟩ : Dev nD) = yp c := by revert c; decide +kernel

theorem xp_xp : ∀ c : Dev nD, xp (xp c) = c := by decide
theorem yp_yp : ∀ c : Dev nD, yp (yp c) = c := by decide
theorem xp_ne_yp : ∀ c : Dev nD, xp c ≠ yp c := by decide
/-- The two exchanges pair the devices. -/
def xpE : Dev nD ≃ Dev nD := ⟨xp, xp, xp_xp, xp_xp⟩
def ypE : Dev nD ≃ Dev nD := ⟨yp, yp, yp_yp, yp_yp⟩

/-- A device's second mesh coordinate: which half of a block it exchanges. -/
def yc (c : Dev nD) : ℕ := (c.val / 4) % 2
theorem yc_lt (c : Dev nD) : yc c < 2 := Nat.mod_lt _ (by decide)
theorem yc_xp : ∀ c : Dev nD, yc (xp c) = yc c := by decide
theorem yc_yp : ∀ c : Dev nD, yc (yp c) = 1 - yc c := by decide

end Cert.KernelIdeal.Gen
-- ==== Proof.Proto.lean ====
/- The protocol of the two exchanges: the slots and cells of a device, what each landing holds, and the schedule of rounds.

   A device keeps four row slots (filled by its first peer), three forwarding slots (filled by its second peer) and three copy
   slots (filled by itself); block `b` goes through row slot `b % 4`, forwarding slot `b % 3` and copy slot `b % 3`, at round
   `b / 4` or `b / 3` of that slot's cells. A row or forwarding slot is handed back to its writer through a release record, one
   per device and block, before the credit for that block is signalled; the first blocks' slots are handed over by the barrier.
   The credit cells have one round whose units are taken one at a time; the payload of the unit for block `b` says that every
   slot up to block `b` has been handed back, so any `n` units taken vouch for the first `n` slots. -/
module

public import proofs.«01_k».proof.Proof.Closed
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Release
public import Idealize.ShloMosaic.Lib.Rounds
public import Idealize.ShloMosaic.Lib.Tactic

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds, the release records -/

/-- A release record: the device whose slot it is, whether a row slot, and the block. -/
abbrev Key : Type := Dev nD × Bool × ℕ
abbrev UB : Type := URounds (GSem nD τ sig) ℕ
abbrev US : Type := Release.USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

variable (m : (ℓ : Loc nD τ sig) → Buf (Elt F) ℓ)

/-! ## Slots and rows -/

theorem inbX (b : ℕ) : ∀ a, (![b % 4, 0, 0] : Fin 3 → ℕ) a + S1x256x2048.size a ≤ S4x256x2048.size a := by
  have := Nat.mod_lt b (show 0 < 4 by decide)
  intro a; fin_cases a
  · show b % 4 + 1 ≤ 4; omega
  · show 0 + 256 ≤ 256; omega
  · show 0 + 2048 ≤ 2048; omega
theorem inbY (b : ℕ) : ∀ a, (![b % 3, 0, 0] : Fin 3 → ℕ) a + S1x256x2048.size a ≤ S3x256x2048.size a := by
  have := Nat.mod_lt b (show 0 < 3 by decide)
  intro a; fin_cases a
  · show b % 3 + 1 ≤ 3; omega
  · show 0 + 256 ≤ 256; omega
  · show 0 + 2048 ≤ 2048; omega
theorem inbL (b : ℕ) : ∀ a, (![b % 3, 0, 0] : Fin 3 → ℕ) a + S1x512x2048.size a ≤ S3x512x2048.size a := by
  have := Nat.mod_lt b (show 0 < 3 by decide)
  intro a; fin_cases a
  · show b % 3 + 1 ≤ 3; omega
  · show 0 + 512 ≤ 512; omega
  · show 0 + 2048 ≤ 2048; omega
theorem inbR (b h : ℕ) : ∀ a, (![0, 512 * (b % 16) + 256 * (h % 2), 0] : Fin 3 → ℕ) a + S1x256x2048.size a ≤ S1x8192x2048.size a := by
  have := Nat.mod_lt b (show 0 < 16 by decide); have := Nat.mod_lt h (show 0 < 2 by decide)
  intro a; fin_cases a
  · show 0 + 1 ≤ 1; omega
  · show 512 * (b % 16) + 256 * (h % 2) + 256 ≤ 8192; omega
  · show 0 + 2048 ≤ 2048; omega
theorem inbK (b : ℕ) : ∀ a, (![0, 512 * (b % 16), 0] : Fin 3 → ℕ) a + S1x512x2048.size a ≤ S1x8192x2048.size a := by
  have := Nat.mod_lt b (show 0 < 16 by decide)
  intro a; fin_cases a
  · show 0 + 1 ≤ 1; omega
  · show 512 * (b % 16) + 512 ≤ 8192; omega
  · show 0 + 2048 ≤ 2048; omega

/-- The row slot of block `b`. -/
abbrev xM (b : ℕ) : Memref sig .tc .vmem S256x2048 .bf16 :=
  ((Memref.whole cc0_scratch0).slice (Rect.unit (s := S4x256x2048) ![b % 4, 0, 0] S1x256x2048.size (inbX b)) (fun _ => rfl)).squeeze S256x2048 squeezes_S1x256x2048_S256x2048
/-- The forwarding slot of block `b`. -/
abbrev yM (b : ℕ) : Memref sig .tc .vmem S256x2048 .bf16 :=
  ((Memref.whole cc0_scratch1).slice (Rect.unit (s := S3x256x2048) ![b % 3, 0, 0] S1x256x2048.size (inbY b)) (fun _ => rfl)).squeeze S256x2048 squeezes_S1x256x2048_S256x2048
/-- The copy slot of block `b`. -/
abbrev lM (b : ℕ) : Memref sig .tc .vmem S512x2048 .bf16 :=
  ((Memref.whole cc0_scratch2).slice (Rect.unit (s := S3x512x2048) ![b % 3, 0, 0] S1x512x2048.size (inbL b)) (fun _ => rfl)).squeeze S512x2048 squeezes_S1x512x2048_S512x2048
/-- Half `h` of block `b` of a device's operand. -/
abbrev rowsM (b h : ℕ) : Memref sig .tc .hbm S256x2048 .bf16 :=
  ((Memref.whole main_arg0).slice (Rect.unit (s := S1x8192x2048) ![0, 512 * (b % 16) + 256 * (h % 2), 0] S1x256x2048.size (inbR b h)) (fun _ => rfl)).squeeze S256x2048 squeezes_S1x256x2048_S256x2048
/-- Block `b` of a device's operand. -/
abbrev blkM (b : ℕ) : Memref sig .tc .hbm S512x2048 .bf16 :=
  ((Memref.whole main_arg0).slice (Rect.unit (s := S1x8192x2048) ![0, 512 * (b % 16), 0] S1x512x2048.size (inbK b)) (fun _ => rfl)).squeeze S512x2048 squeezes_S1x512x2048_S512x2048

/-- What half `h` of block `b` of device `d`'s operand holds at launch. -/
def XB (d : Dev nD) (b h : ℕ) : Vec F S256x2048 .bf16 := (rowsM b h).view.read (Elt F) (m ((d : Thread nD τ).loc main_arg0))
/-- What block `b` of device `d`'s operand holds at launch. -/
def LB (d : Dev nD) (b : ℕ) : Vec F S512x2048 .bf16 := (blkM b).view.read (Elt F) (m ((d : Thread nD τ).loc main_arg0))

/-! ## Cells -/

theorem lt_add_mod4 (k b : ℕ) (hk : k ≤ 9) : k + b % 4 < 22 := by have := Nat.mod_lt b (show 0 < 4 by decide); omega
theorem lt_add_mod3 (k b : ℕ) (hk : k ≤ 19) : k + b % 3 < 22 := by have := Nat.mod_lt b (show 0 < 3 by decide); omega

/-- The cells block `b` goes through: row send and receive, forwarding send and receive, copy. -/
def xsS (b : ℕ) : SemLoc sig := .dma ⟨5 + b % 4, lt_add_mod4 5 b (by decide)⟩
def xrS (b : ℕ) : SemLoc sig := .dma ⟨9 + b % 4, lt_add_mod4 9 b (by decide)⟩
def ysS (b : ℕ) : SemLoc sig := .dma ⟨13 + b % 3, lt_add_mod3 13 b (by decide)⟩
def yrS (b : ℕ) : SemLoc sig := .dma ⟨16 + b % 3, lt_add_mod3 16 b (by decide)⟩
def lsS (b : ℕ) : SemLoc sig := .dma ⟨19 + b % 3, lt_add_mod3 19 b (by decide)⟩
/-- The two credit cells and the runtime's barrier cell. -/
def xcS : SemLoc sig := .reg (0 : Fin 3)
def ycS : SemLoc sig := .reg (1 : Fin 3)
def barS : SemLoc sig := .reg (2 : Fin 3)

/-- A semaphore of a device, as a cell of the mesh. -/
abbrev cellAt (c : Dev nD) (s : SemLoc sig) : GSem nD τ sig := ((c : Thread nD τ), s)

/-- What a semaphore is for, and of which slot. -/
inductive Role where
  | xs (s : ℕ) | xr (s : ℕ) | ys (s : ℕ) | yr (s : ℕ) | ls (s : ℕ) | xc | yc | bar | no

def role : SemLoc sig → Role
  | .dma q => if q.val < 5 then .no else if q.val < 9 then .xs (q.val - 5) else if q.val < 13 then .xr (q.val - 9)
      else if q.val < 16 then .ys (q.val - 13) else if q.val < 19 then .yr (q.val - 16) else .ls (q.val - 19)
  | .reg q => if q.val = 0 then .xc else if q.val = 1 then .yc else .bar

theorem role_xs (b : ℕ) : role (xsS b) = .xs (b % 4) := by
  have := Nat.mod_lt b (show 0 < 4 by decide)
  simp only [role, xsS]; rw [if_neg (by omega), if_pos (by omega)]; congr 1; omega
theorem role_xr (b : ℕ) : role (xrS b) = .xr (b % 4) := by
  have := Nat.mod_lt b (show 0 < 4 by decide)
  simp only [role, xrS]; rw [if_neg (by omega), if_neg (by omega), if_pos (by omega)]; congr 1; omega
theorem role_ys (b : ℕ) : role (ysS b) = .ys (b % 3) := by
  have := Nat.mod_lt b (show 0 < 3 by decide)
  simp only [role, ysS]; rw [if_neg (by omega), if_neg (by omega), if_neg (by omega), if_pos (by omega)]; congr 1; omega
theorem role_yr (b : ℕ) : role (yrS b) = .yr (b % 3) := by
  have := Nat.mod_lt b (show 0 < 3 by decide)
  simp only [role, yrS]; rw [if_neg (by omega), if_neg (by omega), if_neg (by omega), if_neg (by omega), if_pos (by omega)]; congr 1; omega
theorem role_ls (b : ℕ) : role (lsS b) = .ls (b % 3) := by
  have := Nat.mod_lt b (show 0 < 3 by decide)
  simp only [role, lsS]
  rw [if_neg (by omega), if_neg (by omega), if_neg (by omega), if_neg (by omega), if_neg (by omega)]; congr 1; omega
theorem role_xc : role xcS = .xc := rfl
theorem role_yc : role ycS = .yc := rfl
theorem role_bar : role barS = .bar := rfl

/-! ## The schedule -/

/-- The credit of a half block's transfer and of a whole block's. -/
def NX : ℕ := (xM 0).view.dmaCredit
def NL : ℕ := (lM 0).view.dmaCredit
theorem NX_pos : 0 < NX := View.dmaCredit_pos _ (by decide)
theorem NL_pos : 0 < NL := View.dmaCredit_pos _ (by decide)

/-- The row slots up to block `n` of device `o` have been handed to their writer, and their receive cells stand at those rounds. -/
def FX (o : Dev nD) (n : ℕ) : sProp 𝕄 :=
  bigSep (Finset.range n) fun b => iprop(Release.released ES (o, true, b) 1 ∗ reached ER (cellAt o (xrS b)) (b / 4))
/-- The same of the forwarding slots. -/
def FY (o : Dev nD) (n : ℕ) : sProp 𝕄 :=
  bigSep (Finset.range n) fun b => iprop(Release.released ES (o, false, b) 1 ∗ reached ER (cellAt o (yrS b)) (b / 3))

instance FX_persistent (o : Dev nD) (n : ℕ) : BI.Persistent (FX (F := F) o n) := by unfold FX; infer_instance
instance FY_persistent (o : Dev nD) (n : ℕ) : BI.Persistent (FY (F := F) o n) := by unfold FY; infer_instance
instance FX_storable (o : Dev nD) (n : ℕ) : BI.Storable (upEmb : UEmb _ 𝕄) (FX (F := F) o n) := by unfold FX; infer_instance
instance FY_storable (o : Dev nD) (n : ℕ) : BI.Storable (upEmb : UEmb _ 𝕄) (FY (F := F) o n) := by unfold FY; infer_instance

/-- The duties of a round. -/
def dutiesR : Role → ℕ → Finset ℕ
  | .xs s, r => if s + 4 * r < 16 then {0} else ∅
  | .xr s, r => if s + 4 * r < 16 then {0} else ∅
  | .ys s, r => if s + 3 * r < 16 then {0} else ∅
  | .yr s, r => if s + 3 * r < 16 then {0} else ∅
  | .ls s, r => if s + 3 * r < 16 then {0} else ∅
  | .xc, r => if r = 0 then Finset.Ico 4 16 else ∅
  | .yc, r => if r = 0 then Finset.Ico 3 16 else ∅
  | .bar, r => if r = 0 then Finset.range 2 else ∅
  | .no, _ => ∅

/-- The units of a duty. -/
def amountR : Role → ℕ
  | .xs _ => NX | .xr _ => NX | .ys _ => NX | .yr _ => NX | .ls _ => NL | .xc => 1 | .yc => 1 | .bar => 1 | .no => 1

theorem amountR_pos (x : Role) : 0 < amountR x := by
  cases x <;> first | exact NX_pos | exact NL_pos | exact Nat.one_pos

/-- What a duty's units hand device `c`. -/
def payR (c : Dev nD) : Role → ℕ → ℕ → sProp 𝕄
  | .xs _, _, _ => iprop(emp)
  | .xr s, r, _ => owns (c : Thread nD τ) (xM (s + 4 * r)) fullShare (XB m (xp c) (s + 4 * r) (yc c))
  | .ys s, r, _ => owns (c : Thread nD τ) (xM (s + 3 * r)) (fullShare : PosShare TreeShare).right (XB m (xp c) (s + 3 * r) (yc c))
  | .yr s, r, _ => owns (c : Thread nD τ) (yM (s + 3 * r)) fullShare (XB m (xp (yp c)) (s + 3 * r) (1 - yc c))
  | .ls s, r, _ => owns (c : Thread nD τ) (lM (s + 3 * r)) fullShare (LB m c (s + 3 * r))
  | .xc, _, d => FX (xp c) (d + 1)
  | .yc, _, d => FY (yp c) (d + 1)
  | .bar, _, d => if d = 0 then FX (xp c) 4 else FY (yp c) 3
  | .no, _, _ => iprop(emp)

instance payR_storable (c : Dev nD) (x : Role) (r d : ℕ) : BI.Storable (upEmb : UEmb _ 𝕄) (payR (F := F) m c x r d) := by
  cases x <;> unfold payR <;> dsimp only <;> first | infer_instance | (split <;> infer_instance)

/-- The exchange's rounds. -/
def Rd : Rounds.Schedule (GSem nD τ sig) ℕ 𝕄 where
  duties g r := if g.1.2 = .tc then dutiesR (role g.2) r else ∅
  unitless _ := False
  amount g _ _ := amountR (role g.2)
  payload g r d := payR m g.1.1 (role g.2) r d
  amount_pos g _ _ _ := amountR_pos _

instance Rd_storable (g : GSem nD τ sig) (r d : ℕ) : BI.Storable (upEmb : UEmb _ 𝕄) ((Rd (F := F) m).payload g r d) :=
  payR_storable m _ _ _ _

omit [FloatOps F] in
theorem duties_at (c : Dev nD) (s : SemLoc sig) (r : ℕ) : (Rd (F := F) m).duties (cellAt c s) r = dutiesR (role s) r := by
  show (if (cellAt c s).1.2 = .tc then dutiesR (role s) r else ∅) = _
  exact if_pos rfl
omit [FloatOps F] in
theorem amount_at (c : Dev nD) (s : SemLoc sig) (r d : ℕ) : (Rd (F := F) m).amount (cellAt c s) r d = amountR (role s) := rfl
omit [FloatOps F] in
theorem payload_at (c : Dev nD) (s : SemLoc sig) (r d : ℕ) : (Rd (F := F) m).payload (cellAt c s) r d = payR m c (role s) r d := rfl

/-! ## Levels and debts

A unit's index IS its level: ten times the step it is waited for at, and a phase. -/

def lx (b : ℕ) : ℕ := 10 * b + 17
def ly (b : ℕ) : ℕ := 10 * b + 28
def lxc (b : ℕ) : ℕ := 10 * b - 7
def lyc (b : ℕ) : ℕ := 10 * b + 16

def L (g : GSem nD τ sig) : Finset ℕ := if g.1.2 = .tc then Finset.range 300 else ∅
def lv (_ : GSem nD τ sig) (ι : ℕ) : ℕ := ι
theorem L_of_ne (g : GSem nD τ sig) (h : g.1.2 ≠ .tc) : L g = ∅ := if_neg h
theorem L_tc (c : Dev nD) (s : SemLoc sig) : L (cellAt c s) = Finset.range 300 := if_pos rfl

/-- What a device still owes: the row transfers from block `a`, the forwards from block `b`, the row credits from block
    `e` and the forwarding credits from block `f`. -/
def OX (c : Dev nD) (a : ℕ) : CellTallies nD τ sig ℕ := ∑ i ∈ Finset.Ico a 16, tallyAt (cellAt (xp c) (xrS i)) (lx i) NX
def OY (c : Dev nD) (a : ℕ) : CellTallies nD τ sig ℕ := ∑ i ∈ Finset.Ico a 16, tallyAt (cellAt (yp c) (yrS i)) (ly i) NX
def OC (c : Dev nD) (a : ℕ) : CellTallies nD τ sig ℕ := ∑ i ∈ Finset.Ico a 16, tallyAt (cellAt (xp c) xcS) (lxc i) 1
def OD (c : Dev nD) (a : ℕ) : CellTallies nD τ sig ℕ := ∑ i ∈ Finset.Ico a 16, tallyAt (cellAt (yp c) ycS) (lyc i) 1
def OO (c : Dev nD) (a b e f : ℕ) : CellTallies nD τ sig ℕ := OX c a + OY c b + OC c e + OD c f
/-- And at launch the two barrier units. -/
def OB (c : Dev nD) : CellTallies nD τ sig ℕ := OO c 0 0 4 3 + tallyAt (cellAt (yp c) barS) 1 1
def O₀ (c : Dev nD) : CellTallies nD τ sig ℕ := OB c + tallyAt (cellAt (xp c) barS) 1 1

end Cert.KIProof

end
-- ==== Proof.Sched.lean ====
/- The schedule read at a block, the printed views and semaphores as the blocks', and the order of the waits. -/
module

public import proofs.«01_k».proof.Proof.Proto

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Printed views and semaphores -/

theorem xM_eq (b : ℕ) {off : Fin 3 → ℕ} (e : off = ![b % 4, 0, 0]) (h : ∀ a, off a + S1x256x2048.size a ≤ S4x256x2048.size a) :
    ((Memref.whole cc0_scratch0).slice (Rect.unit (s := S4x256x2048) off S1x256x2048.size h) (fun _ => rfl)).squeeze S256x2048 squeezes_S1x256x2048_S256x2048 = xM b := by
  subst e; rfl
theorem yM_eq (b : ℕ) {off : Fin 3 → ℕ} (e : off = ![b % 3, 0, 0]) (h : ∀ a, off a + S1x256x2048.size a ≤ S3x256x2048.size a) :
    ((Memref.whole cc0_scratch1).slice (Rect.unit (s := S3x256x2048) off S1x256x2048.size h) (fun _ => rfl)).squeeze S256x2048 squeezes_S1x256x2048_S256x2048 = yM b := by
  subst e; rfl
theorem lM_eq (b : ℕ) {off : Fin 3 → ℕ} (e : off = ![b % 3, 0, 0]) (h : ∀ a, off a + S1x512x2048.size a ≤ S3x512x2048.size a) :
    ((Memref.whole cc0_scratch2).slice (Rect.unit (s := S3x512x2048) off S1x512x2048.size h) (fun _ => rfl)).squeeze S512x2048 squeezes_S1x512x2048_S512x2048 = lM b := by
  subst e; rfl
theorem rowsM_eq (b k : ℕ) {off : Fin 3 → ℕ} (e : off = ![0, 512 * (b % 16) + 256 * (k % 2), 0]) (h : ∀ a, off a + S1x256x2048.size a ≤ S1x8192x2048.size a) :
    ((Memref.whole main_arg0).slice (Rect.unit (s := S1x8192x2048) off S1x256x2048.size h) (fun _ => rfl)).squeeze S256x2048 squeezes_S1x256x2048_S256x2048 = rowsM b k := by
  subst e; rfl
theorem blkM_eq (b : ℕ) {off : Fin 3 → ℕ} (e : off = ![0, 512 * (b % 16), 0]) (h : ∀ a, off a + S1x512x2048.size a ≤ S1x8192x2048.size a) :
    ((Memref.whole main_arg0).slice (Rect.unit (s := S1x8192x2048) off S1x512x2048.size h) (fun _ => rfl)).squeeze S512x2048 squeezes_S1x512x2048_S512x2048 = blkM b := by
  subst e; rfl

theorem xM_congr {b b' : ℕ} (h : b % 4 = b' % 4) : xM b = xM b' := xM_eq b' (by rw [h]) (inbX b)
theorem yM_congr {b b' : ℕ} (h : b % 3 = b' % 3) : yM b = yM b' := yM_eq b' (by rw [h]) (inbY b)
theorem lM_congr {b b' : ℕ} (h : b % 3 = b' % 3) : lM b = lM b' := lM_eq b' (by rw [h]) (inbL b)
theorem xsS_congr {b b' : ℕ} (h : b % 4 = b' % 4) : xsS b = xsS b' := by unfold xsS; simp only [h]
theorem xrS_congr {b b' : ℕ} (h : b % 4 = b' % 4) : xrS b = xrS b' := by unfold xrS; simp only [h]
theorem ysS_congr {b b' : ℕ} (h : b % 3 = b' % 3) : ysS b = ysS b' := by unfold ysS; simp only [h]
theorem yrS_congr {b b' : ℕ} (h : b % 3 = b' % 3) : yrS b = yrS b' := by unfold yrS; simp only [h]
theorem lsS_congr {b b' : ℕ} (h : b % 3 = b' % 3) : lsS b = lsS b' := by unfold lsS; simp only [h]

theorem sem4 (base k : ℕ) (hb : base + S4.numel ≤ 22) {off : Fin 1 → ℕ} (e : off = ![k]) (h : ∀ a, off a + S1.size a ≤ S4.size a) (hk : base + k < 22) :
    (((SemArray.consecutive base S4 hb).slice (Rect.unit (s := S4) off S1.size h)).squeeze S_ squeezes_S1_S_).sem = (⟨base + k, hk⟩ : Fin 22) := by
  subst e
  have h0 : k + 1 ≤ 4 := h 0
  have h1 : k < 4 := by omega
  refine Fin.ext (congrArg (base + ·) ?_)
  revert h; rcases (by omega : k = 0 ∨ k = 1 ∨ k = 2 ∨ k = 3) with rfl | rfl | rfl | rfl <;> (clear h0 h1 hk hb; decide +kernel +revert)
theorem sem3 (base k : ℕ) (hb : base + S3.numel ≤ 22) {off : Fin 1 → ℕ} (e : off = ![k]) (h : ∀ a, off a + S1.size a ≤ S3.size a) (hk : base + k < 22) :
    (((SemArray.consecutive base S3 hb).slice (Rect.unit (s := S3) off S1.size h)).squeeze S_ squeezes_S1_S_).sem = (⟨base + k, hk⟩ : Fin 22) := by
  subst e
  have h0 : k + 1 ≤ 3 := h 0
  have h1 : k < 3 := by omega
  refine Fin.ext (congrArg (base + ·) ?_)
  revert h; rcases (by omega : k = 0 ∨ k = 1 ∨ k = 2) with rfl | rfl | rfl <;> (clear h0 h1 hk hb; decide +kernel +revert)

theorem xs_sem (b : ℕ) {off : Fin 1 → ℕ} (e : off = ![b % 4]) (h : ∀ a, off a + S1.size a ≤ S4.size a) :
    (SemLoc.dma ((cc0_scratch3.slice (Rect.unit (s := S4) off S1.size h)).squeeze S_ squeezes_S1_S_).sem : SemLoc sig) = xsS b :=
  congrArg SemLoc.dma (sem4 5 (b % 4) _ e h _)
theorem xr_sem (b : ℕ) {off : Fin 1 → ℕ} (e : off = ![b % 4]) (h : ∀ a, off a + S1.size a ≤ S4.size a) :
    (SemLoc.dma ((cc0_scratch4.slice (Rect.unit (s := S4) off S1.size h)).squeeze S_ squeezes_S1_S_).sem : SemLoc sig) = xrS b :=
  congrArg SemLoc.dma (sem4 9 (b % 4) _ e h _)
theorem ys_sem (b : ℕ) {off : Fin 1 → ℕ} (e : off = ![b % 3]) (h : ∀ a, off a + S1.size a ≤ S3.size a) :
    (SemLoc.dma ((cc0_scratch5.slice (Rect.unit (s := S3) off S1.size h)).squeeze S_ squeezes_S1_S_).sem : SemLoc sig) = ysS b :=
  congrArg SemLoc.dma (sem3 13 (b % 3) _ e h _)
theorem yr_sem (b : ℕ) {off : Fin 1 → ℕ} (e : off = ![b % 3]) (h : ∀ a, off a + S1.size a ≤ S3.size a) :
    (SemLoc.dma ((cc0_scratch6.slice (Rect.unit (s := S3) off S1.size h)).squeeze S_ squeezes_S1_S_).sem : SemLoc sig) = yrS b :=
  congrArg SemLoc.dma (sem3 16 (b % 3) _ e h _)
theorem ls_sem (b : ℕ) {off : Fin 1 → ℕ} (e : off = ![b % 3]) (h : ∀ a, off a + S1.size a ≤ S3.size a) :
    (SemLoc.dma ((cc0_scratch7.slice (Rect.unit (s := S3) off S1.size h)).squeeze S_ squeezes_S1_S_).sem : SemLoc sig) = lsS b :=
  congrArg SemLoc.dma (sem3 19 (b % 3) _ e h _)
theorem xc_sem : (SemLoc.reg cc0_scratch8.sem : SemLoc sig) = xcS := rfl
theorem yc_sem : (SemLoc.reg cc0_scratch9.sem : SemLoc sig) = ycS := rfl

/-- A half block's transfer credits the same whichever half-block view names it. -/
theorem credit_half {sp : Space} (v : View sig .tc sp S256x2048 .bf16) : v.dmaCredit = NX := rfl
theorem credit_block {sp : Space} (v : View sig .tc sp S512x2048 .bf16) : v.dmaCredit = NL := rfl

/-! ## The schedule at a block -/

omit [FloatOps F] in
theorem duties_xs (c : Dev nD) {b : ℕ} (hb : b < 16) : (Rd (F := F) m).duties (cellAt c (xsS b)) (b / 4) = {0} := by
  rw [duties_at, role_xs]; unfold dutiesR; dsimp only; rw [Nat.mod_add_div, if_pos hb]
omit [FloatOps F] in
theorem duties_xr (c : Dev nD) {b : ℕ} (hb : b < 16) : (Rd (F := F) m).duties (cellAt c (xrS b)) (b / 4) = {0} := by
  rw [duties_at, role_xr]; unfold dutiesR; dsimp only; rw [Nat.mod_add_div, if_pos hb]
omit [FloatOps F] in
theorem duties_ys (c : Dev nD) {b : ℕ} (hb : b < 16) : (Rd (F := F) m).duties (cellAt c (ysS b)) (b / 3) = {0} := by
  rw [duties_at, role_ys]; unfold dutiesR; dsimp only; rw [Nat.mod_add_div, if_pos hb]
omit [FloatOps F] in
theorem duties_yr (c : Dev nD) {b : ℕ} (hb : b < 16) : (Rd (F := F) m).duties (cellAt c (yrS b)) (b / 3) = {0} := by
  rw [duties_at, role_yr]; unfold dutiesR; dsimp only; rw [Nat.mod_add_div, if_pos hb]
omit [FloatOps F] in
theorem duties_ls (c : Dev nD) {b : ℕ} (hb : b < 16) : (Rd (F := F) m).duties (cellAt c (lsS b)) (b / 3) = {0} := by
  rw [duties_at, role_ls]; unfold dutiesR; dsimp only; rw [Nat.mod_add_div, if_pos hb]
omit [FloatOps F] in
theorem duties_xc (c : Dev nD) : (Rd (F := F) m).duties (cellAt c xcS) 0 = Finset.Ico 4 16 := by rw [duties_at, role_xc]; rfl
omit [FloatOps F] in
theorem duties_yc (c : Dev nD) : (Rd (F := F) m).duties (cellAt c ycS) 0 = Finset.Ico 3 16 := by rw [duties_at, role_yc]; rfl
omit [FloatOps F] in
theorem duties_bar (c : Dev nD) : (Rd (F := F) m).duties (cellAt c barS) 0 = Finset.range 2 := by rw [duties_at, role_bar]; rfl

omit [FloatOps F] in
/-- Past the last block of a slot its cells have no duties, nor have the credit and barrier cells past their one round. -/
theorem duties_late {c : Dev nD} {s : SemLoc sig} {r : ℕ} (h : dutiesR (role s) r = ∅) : (Rd (F := F) m).duties (cellAt c s) r = ∅ := by
  rw [duties_at, h]

omit [FloatOps F] in
theorem pay_xs (c : Dev nD) (b d : ℕ) : (Rd (F := F) m).payload (cellAt c (xsS b)) (b / 4) d = iprop(emp) := by
  rw [payload_at, role_xs]; rfl
omit [FloatOps F] in
theorem pay_xr (c : Dev nD) (b d : ℕ) : (Rd (F := F) m).payload (cellAt c (xrS b)) (b / 4) d = owns (c : Thread nD τ) (xM b) fullShare (XB m (xp c) b (yc c)) := by
  rw [payload_at, role_xr]; unfold payR; dsimp only; rw [Nat.mod_add_div]
omit [FloatOps F] in
theorem pay_ys (c : Dev nD) (b d : ℕ) : (Rd (F := F) m).payload (cellAt c (ysS b)) (b / 3) d
    = owns (c : Thread nD τ) (xM b) (fullShare : PosShare TreeShare).right (XB m (xp c) b (yc c)) := by
  rw [payload_at, role_ys]; unfold payR; dsimp only; rw [Nat.mod_add_div]
omit [FloatOps F] in
theorem pay_yr (c : Dev nD) (b d : ℕ) : (Rd (F := F) m).payload (cellAt c (yrS b)) (b / 3) d
    = owns (c : Thread nD τ) (yM b) fullShare (XB m (xp (yp c)) b (1 - yc c)) := by
  rw [payload_at, role_yr]; unfold payR; dsimp only; rw [Nat.mod_add_div]
omit [FloatOps F] in
theorem pay_ls (c : Dev nD) (b d : ℕ) : (Rd (F := F) m).payload (cellAt c (lsS b)) (b / 3) d = owns (c : Thread nD τ) (lM b) fullShare (LB m c b) := by
  rw [payload_at, role_ls]; unfold payR; dsimp only; rw [Nat.mod_add_div]
omit [FloatOps F] in
theorem pay_xc (c : Dev nD) (d : ℕ) : (Rd (F := F) m).payload (cellAt c xcS) 0 d = FX (xp c) (d + 1) := by rw [payload_at, role_xc]; rfl
omit [FloatOps F] in
theorem pay_yc (c : Dev nD) (d : ℕ) : (Rd (F := F) m).payload (cellAt c ycS) 0 d = FY (yp c) (d + 1) := by rw [payload_at, role_yc]; rfl
omit [FloatOps F] in
theorem pay_bar0 (c : Dev nD) : (Rd (F := F) m).payload (cellAt c barS) 0 0 = FX (xp c) 4 := by rw [payload_at, role_bar]; rfl
omit [FloatOps F] in
theorem pay_bar1 (c : Dev nD) : (Rd (F := F) m).payload (cellAt c barS) 0 1 = FY (yp c) 3 := by rw [payload_at, role_bar]; rfl

omit [FloatOps F] in
theorem expect_at (c : Dev nD) (s : SemLoc sig) (r : ℕ) : (Rd (F := F) m).expect (cellAt c s) r = (dutiesR (role s) r).card * amountR (role s) := by
  unfold Schedule.expect Schedule.amountOf
  rw [duties_at, Finset.sum_congr rfl fun d _ => amount_at m c s r d, Finset.sum_const, smul_eq_mul]

/-! ## The order of the waits -/

theorem add_pos_of {T T' : CellTallies nD τ sig ℕ} {g : GSem nD τ sig} {ι : ℕ} (h : 0 < (T + T') g ι) : 0 < T g ι ∨ 0 < T' g ι := by
  rw [Pi.add_apply, Finsupp.add_apply] at h; omega
theorem tallyAt_pos_of {g g' : GSem nD τ sig} {ι ι' k : ℕ} (h : 0 < (tallyAt g ι k : CellTallies nD τ sig ℕ) g' ι') : g' = g ∧ ι' = ι := by
  rw [tallyAt_apply] at h; by_contra hc; rw [if_neg hc] at h; exact Nat.lt_irrefl 0 h
theorem sum_pos_of {s : Finset ℕ} {T : ℕ → CellTallies nD τ sig ℕ} {g : GSem nD τ sig} {ι : ℕ} (h : 0 < (∑ i ∈ s, T i) g ι) :
    ∃ i ∈ s, 0 < T i g ι := by
  induction s using Finset.induction_on with
  | empty => rw [Finset.sum_empty] at h; exact absurd h (Nat.lt_irrefl 0)
  | insert a s ha ih =>
    rw [Finset.sum_insert ha] at h
    rcases add_pos_of h with h | h
    · exact ⟨a, Finset.mem_insert_self _ _, h⟩
    · obtain ⟨i, hi, h⟩ := ih h; exact ⟨i, Finset.mem_insert_of_mem hi, h⟩

/-- Whatever is still owed is owed to a device's cell at an index among these. -/
theorem OO_pos (c : Dev nD) {a b e f : ℕ} {g : GSem nD τ sig} {ι : ℕ} (h : 0 < OO c a b e f g ι) :
    g.1.2 = .tc ∧ ∃ i < 16, (a ≤ i ∧ ι = lx i) ∨ (b ≤ i ∧ ι = ly i) ∨ (e ≤ i ∧ ι = lxc i) ∨ (f ≤ i ∧ ι = lyc i) := by
  unfold OO OX OY OC OD at h
  rcases add_pos_of h with h | h
  · rcases add_pos_of h with h | h
    · rcases add_pos_of h with h | h
      · obtain ⟨i, hi, h⟩ := sum_pos_of h; obtain ⟨rfl, rfl⟩ := tallyAt_pos_of h
        rw [Finset.mem_Ico] at hi; exact ⟨rfl, i, hi.2, .inl ⟨hi.1, rfl⟩⟩
      · obtain ⟨i, hi, h⟩ := sum_pos_of h; obtain ⟨rfl, rfl⟩ := tallyAt_pos_of h
        rw [Finset.mem_Ico] at hi; exact ⟨rfl, i, hi.2, .inr (.inl ⟨hi.1, rfl⟩)⟩
    · obtain ⟨i, hi, h⟩ := sum_pos_of h; obtain ⟨rfl, rfl⟩ := tallyAt_pos_of h
      rw [Finset.mem_Ico] at hi; exact ⟨rfl, i, hi.2, .inr (.inr (.inl ⟨hi.1, rfl⟩))⟩
  · obtain ⟨i, hi, h⟩ := sum_pos_of h; obtain ⟨rfl, rfl⟩ := tallyAt_pos_of h
    rw [Finset.mem_Ico] at hi; exact ⟨rfl, i, hi.2, .inr (.inr (.inr ⟨hi.1, rfl⟩))⟩

/-- A wait at index `k` may be made while every remaining debt has a larger index. -/
theorem may_of (c : Dev nD) (s : SemLoc sig) (k : ℕ) (D : CellTallies nD τ sig ℕ) (hk : k < 300)
    (hD : ∀ g ι, 0 < D g ι → g.1.2 = .tc ∧ k < ι ∧ ι < 300) :
    (levAts L lv : sProp 𝕄) ⊢ MayWait (c : Thread nD τ) s k D :=
  MayOwe.of_cut (L := L) (lev := lv) k
    (fun p hp => by obtain rfl := Finset.mem_singleton.mp hp; rw [L_tc]; exact Finset.mem_range.mpr hk)
    (fun g ι h => by have := hD g ι h; unfold L; rw [if_pos this.1]; exact Finset.mem_range.mpr this.2.2)
    (fun p hp => by obtain rfl := Finset.mem_singleton.mp hp; exact le_rfl)
    (fun g ι h => (hD g ι h).2.1)

theorem may_OO (c : Dev nD) (s : SemLoc sig) (k a b e f : ℕ) (hk : k < 200) (ha : k < 10 * a + 17) (hb : k < 10 * b + 28)
    (he : k + 7 < 10 * e) (hf : k < 10 * f + 16) : (levAts L lv : sProp 𝕄) ⊢ MayWait (c : Thread nD τ) s k (OO c a b e f) :=
  may_of c s k _ (by omega) fun g ι h => by
    obtain ⟨h1, i, hi, h2⟩ := OO_pos c h
    refine ⟨h1, ?_⟩
    rcases h2 with ⟨h2, rfl⟩ | ⟨h2, rfl⟩ | ⟨h2, rfl⟩ | ⟨h2, rfl⟩
    · unfold lx; omega
    · unfold ly; omega
    · unfold lxc; omega
    · unfold lyc; omega

theorem ico_sum {A : Type} [AddCommMonoid A] {a b : ℕ} (h : a < b) (f : ℕ → A) :
    ∑ i ∈ Finset.Ico a b, f i = ∑ i ∈ Finset.Ico (a + 1) b, f i + f a := by
  rw [show Finset.Ico a b = insert a (Finset.Ico (a + 1) b) by ext x; simp only [Finset.mem_Ico, Finset.mem_insert]; omega,
    Finset.sum_insert (by rw [Finset.mem_Ico]; omega), add_comm]
theorem OX_succ (c : Dev nD) {a : ℕ} (h : a < 16) : OX c a = OX c (a + 1) + tallyAt (cellAt (xp c) (xrS a)) (lx a) NX := by
  unfold OX; rw [ico_sum h]
theorem OY_succ (c : Dev nD) {a : ℕ} (h : a < 16) : OY c a = OY c (a + 1) + tallyAt (cellAt (yp c) (yrS a)) (ly a) NX := by
  unfold OY; rw [ico_sum h]
theorem OC_succ (c : Dev nD) {a : ℕ} (h : a < 16) : OC c a = OC c (a + 1) + tallyAt (cellAt (xp c) xcS) (lxc a) 1 := by
  unfold OC; rw [ico_sum h]
theorem OD_succ (c : Dev nD) {a : ℕ} (h : a < 16) : OD c a = OD c (a + 1) + tallyAt (cellAt (yp c) ycS) (lyc a) 1 := by
  unfold OD; rw [ico_sum h]
theorem OO_x (c : Dev nD) (a b e f : ℕ) (h : a < 16) : OO c a b e f = OO c (a + 1) b e f + tallyAt (cellAt (xp c) (xrS a)) (lx a) NX := by
  unfold OO; rw [OX_succ c h]; ac_rfl
theorem OO_y (c : Dev nD) (a b e f : ℕ) (h : b < 16) : OO c a b e f = OO c a (b + 1) e f + tallyAt (cellAt (yp c) (yrS b)) (ly b) NX := by
  unfold OO; rw [OY_succ c h]; ac_rfl
theorem OO_c (c : Dev nD) (a b e f : ℕ) (h : e < 16) : OO c a b e f = OO c a b (e + 1) f + tallyAt (cellAt (xp c) xcS) (lxc e) 1 := by
  unfold OO; rw [OC_succ c h]; ac_rfl
theorem OO_d (c : Dev nD) (a b e f : ℕ) (h : f < 16) : OO c a b e f = OO c a b e (f + 1) + tallyAt (cellAt (yp c) ycS) (lyc f) 1 := by
  unfold OO; rw [OD_succ c h]; ac_rfl

/-- Two bounds past the last block name the same debts. -/
theorem OO_congr (c : Dev nD) {a b e f a' b' e' f' : ℕ} (ha : a = a' ∨ 16 ≤ a ∧ 16 ≤ a') (hb : b = b' ∨ 16 ≤ b ∧ 16 ≤ b')
    (he : e = e' ∨ 16 ≤ e ∧ 16 ≤ e') (hf : f = f' ∨ 16 ≤ f ∧ 16 ≤ f') : OO c a b e f = OO c a' b' e' f' := by
  have h : ∀ {x y : ℕ}, (x = y ∨ 16 ≤ x ∧ 16 ≤ y) → Finset.Ico x 16 = Finset.Ico y 16 := by
    intro x y h
    rcases h with rfl | ⟨h, h'⟩
    · rfl
    · rw [Finset.Ico_eq_empty_of_le h, Finset.Ico_eq_empty_of_le h']
  unfold OO OX OY OC OD; rw [h ha, h hb, h he, h hf]

/-- Nothing is owed past the last block. -/
theorem OO_zero (c : Dev nD) {a b e f : ℕ} (ha : 16 ≤ a) (hb : 16 ≤ b) (he : 16 ≤ e) (hf : 16 ≤ f) : OO c a b e f = 0 := by
  unfold OO OX OY OC OD
  rw [Finset.Ico_eq_empty_of_le ha, Finset.Ico_eq_empty_of_le hb, Finset.Ico_eq_empty_of_le he, Finset.Ico_eq_empty_of_le hf]
  simp

end Cert.KIProof

end
-- ==== Proof.Effects.lean ====
/- One rule per kind of effect: a wait for a whole round, a credit taken, an exchange sent, a copy started, a unit signalled. -/
module

public import proofs.«01_k».proof.Proof.Sched

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What every device knows -/

/-- The semaphores of the exchange, numbered. -/
def csem (k : Fin 20) : SemLoc sig :=
  if h : k.val < 17 then .dma ⟨5 + k.val, by show 5 + k.val < 22; omega⟩ else .reg ⟨k.val - 17, by show k.val - 17 < 3; have := k.isLt; omega⟩

/-- A cell's invariant, under some name. -/
def cInv (g : GSem nD τ sig) : sProp 𝕄 := iprop(∃ κ : ℕ, cellInv ER (Rd m) κ g)
instance cInv_persistent (g : GSem nD τ sig) : BI.Persistent (cInv (F := F) m g) := by unfold cInv; infer_instance

/-- A free slot, as its writer takes it. -/
def FrX (o : Dev nD) (b : ℕ) : sProp 𝕄 := Release.slot ((xM b).view.loc (o : Thread nD τ)) (xM b).view.set
def FrY (o : Dev nD) (b : ℕ) : sProp 𝕄 := Release.slot ((yM b).view.loc (o : Thread nD τ)) (yM b).view.set
def FrL (o : Dev nD) (b : ℕ) : sProp 𝕄 := Release.slot ((lM b).view.loc (o : Thread nD τ)) (lM b).view.set
def FrK (k : Key) : sProp 𝕄 := if k.2.1 then FrX k.1 k.2.2 else FrY k.1 k.2.2
instance FrX_storable (o : Dev nD) (b : ℕ) : BI.Storable (upEmb : UEmb _ 𝕄) (FrX (F := F) o b) := by unfold FrX; infer_instance
instance FrY_storable (o : Dev nD) (b : ℕ) : BI.Storable (upEmb : UEmb _ 𝕄) (FrY (F := F) o b) := by unfold FrY; infer_instance
instance FrK_storable (k : Key) : BI.Storable (upEmb : UEmb _ 𝕄) (FrK (F := F) k) := by unfold FrK; split <;> infer_instance

/-- A release record's invariant, under some name. -/
def sInv (k : Key) : sProp 𝕄 := iprop(∃ ι : ℕ, Release.slotInv ES ι k (FrK k))
instance sInv_persistent (k : Key) : BI.Persistent (sInv (F := F) k) := by unfold sInv; infer_instance

/-- The release records: per device and kind, one for each block. -/
def keys : Finset Key := Finset.univ ×ˢ Finset.univ ×ˢ Finset.range 16
theorem mem_keys (o : Dev nD) (x : Bool) {b : ℕ} (hb : b < 16) : (o, x, b) ∈ keys := by
  unfold keys; simp only [Finset.mem_product, Finset.mem_univ, Finset.mem_range, true_and]; exact hb

/-- The indices' order. -/
@[irreducible] def Levs : sProp 𝕄 := levAts L lv
instance Levs_persistent : BI.Persistent (Levs (F := F)) := by unfold Levs; infer_instance

/-- Every cell's invariant and that its round 0 is reached, every release record's invariant, and the indices' order. -/
def Ctx : sProp 𝕄 :=
  iprop(bigSep Finset.univ (fun x : Dev nD × Fin 20 => iprop(cInv m (cellAt x.1 (csem x.2)) ∗ reached ER (cellAt x.1 (csem x.2)) 0)) ∗ bigSep keys sInv ∗ Levs (F := F))
instance Ctx_persistent : BI.Persistent (Ctx (F := F) m) := by unfold Ctx; infer_instance

theorem ctx_at (c : Dev nD) (k : Fin 20) : Ctx (F := F) m ⊢ iprop(cInv m (cellAt c (csem k)) ∗ reached ER (cellAt c (csem k)) 0) := by
  unfold Ctx
  exact Laws.sep_elim_left.trans (bigSep_elim (Finset.mem_univ (c, k)))
theorem ctx_cell (c : Dev nD) (k : Fin 20) {s : SemLoc sig} (h : csem k = s) : Ctx (F := F) m ⊢ cInv m (cellAt c s) := by
  subst h; exact (ctx_at m c k).trans Laws.sep_elim_left
theorem ctx_reached (c : Dev nD) (k : Fin 20) {s : SemLoc sig} (h : csem k = s) : Ctx (F := F) m ⊢ reached ER (cellAt c s) 0 := by
  subst h; exact (ctx_at m c k).trans Laws.sep_elim_right
theorem ctx_slot (o : Dev nD) (x : Bool) {b : ℕ} (hb : b < 16) : Ctx (F := F) m ⊢ sInv (o, x, b) := by
  unfold Ctx
  exact Laws.sep_elim_right.trans (Laws.sep_elim_left.trans (bigSep_elim (mem_keys o x hb)))
theorem ctx_lev : Ctx (F := F) m ⊢ Levs (F := F) := by
  unfold Ctx
  iintro ⟨-, -, H⟩
  iexact H

theorem csem_dma (k : ℕ) (h : k < 17) : csem ⟨k, by omega⟩ = (.dma ⟨5 + k, by show 5 + k < 22; omega⟩ : SemLoc sig) := dif_pos h
theorem ctx_xs (c : Dev nD) (b : ℕ) : Ctx (F := F) m ⊢ cInv m (cellAt c (xsS b)) :=
  ctx_cell m c ⟨b % 4, by omega⟩ (csem_dma (b % 4) (by omega))
theorem ctx_xr (c : Dev nD) (b : ℕ) : Ctx (F := F) m ⊢ cInv m (cellAt c (xrS b)) :=
  ctx_cell m c ⟨4 + b % 4, by omega⟩ ((csem_dma (4 + b % 4) (by omega)).trans (by unfold xrS; congr 2; omega))
theorem ctx_ys (c : Dev nD) (b : ℕ) : Ctx (F := F) m ⊢ cInv m (cellAt c (ysS b)) :=
  ctx_cell m c ⟨8 + b % 3, by omega⟩ ((csem_dma (8 + b % 3) (by omega)).trans (by unfold ysS; congr 2; omega))
theorem ctx_yr (c : Dev nD) (b : ℕ) : Ctx (F := F) m ⊢ cInv m (cellAt c (yrS b)) :=
  ctx_cell m c ⟨11 + b % 3, by omega⟩ ((csem_dma (11 + b % 3) (by omega)).trans (by unfold yrS; congr 2; omega))
theorem ctx_ls (c : Dev nD) (b : ℕ) : Ctx (F := F) m ⊢ cInv m (cellAt c (lsS b)) :=
  ctx_cell m c ⟨14 + b % 3, by omega⟩ ((csem_dma (14 + b % 3) (by omega)).trans (by unfold lsS; congr 2; omega))
theorem ctx_xc (c : Dev nD) : Ctx (F := F) m ⊢ cInv m (cellAt c xcS) := ctx_cell m c 17 rfl
theorem ctx_yc (c : Dev nD) : Ctx (F := F) m ⊢ cInv m (cellAt c ycS) := ctx_cell m c 18 rfl
theorem ctx_bar (c : Dev nD) : Ctx (F := F) m ⊢ cInv m (cellAt c barS) := ctx_cell m c 19 rfl

/-! ## The effects -/

abbrev 𝒱₀ : Variants := Variants.none

/-- What device `c` owes, its record of waits aside. -/
def Owes (c : Dev nD) (O : CellTallies nD τ sig ℕ) : sProp 𝕄 := iprop(∃ W : Waits sig ℕ, owes (c : Thread nD τ) O W)

/-- A printed program of device `c` meets `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {k : PUnit → Prog (TpuEff nD τ sig (Elt F) Λ₀ .tc) α} {Q : α → sProp (MT nD τ sig ℕ (Elt F) ℕ UU ℕ)}

/-- A wait on a transfer cell for the one duty of round `r`: the duty's payload. -/
theorem wp_dwait (c : Dev nD) (s : SemLoc sig) {sem : DmaSem sig} (hs : SemLoc.dma sem = s) {sp sp' : Space} {sh sh' : Shape} {e e' : EltTy}
    {src : Memref sig .tc sp' sh' e'} {dst : Memref sig .tc sp sh e} {hsrc : src.view.WordExact} {hdst : dst.view.WordExact}
    (ι r : ℕ) (hN : dst.view.dmaCredit = amountR (role s)) (hd : (Rd (F := F) m).duties (cellAt c s) r = {0}) (O : CellTallies nD τ sig ℕ)
    (hm : (Levs : sProp 𝕄) ⊢ MayWait (c : Thread nD τ) s ι O) :
    iprop(Ctx m ∗ cInv m (cellAt c s) ∗ cred (tallyAt (cellAt c s) ι (amountR (role s))) ∗ Owes c O ∗ atPos ER (cellAt c s) r ∅ 0)
      ⊢ iprop(((Owes c O ∗ atPos ER (cellAt c s) (r + 1) ∅ 0 ∗ reached ER (cellAt c s) (r + 1) ∗ (Rd m).payload (cellAt c s) r 0) -∗ WP c (k ⟨⟩) Q)
          -∗ WP c (.op (.waitDma2 sem src dst hsrc hdst) k) Q) := by
  subst hs
  unfold Owes cInv
  iintro ⟨#HC, ⟨%κ, #HI⟩, Hcr, ⟨%W, HO⟩, Hat⟩ Hk
  ihave #Hlev := (ctx_lev m) $$ HC
  ihave HM := hm $$ Hlev
  have hx : 0 + dst.view.dmaCredit = (Rd (F := F) m).expect (cellAt c (.dma sem)) r := by
    unfold Schedule.expect Schedule.amountOf
    rw [hd, Finset.sum_singleton, Nat.zero_add, hN]; rfl
  rw [← hN]
  iapply (Rounds.wp_wait_rest_token 𝒱₀ ER (Rd m) (c : Thread nD τ) none (κ := κ)
      (wpE_waitDma2_eq 𝒱₀ (c : Thread nD τ) none Set.univ) (Set.mem_univ _) ι (O := O) (W := W) (R := r) (m := 0) (T := ∅) hx) $$ [Hcr HO Hat HM]
  · isplitr; · iexact HI
    isplitl [Hcr]; · iexact Hcr
    isplitl [HO]; · iexact HO
    isplitl [HM]; · iexact HM
    iexact Hat
  rw [hd, Finset.sdiff_empty, bigSep_singleton]
  iintro ⟨HO, Hat, Hr, Hp⟩
  iapply Hk
  isplitl [HO]; · iexists _; iexact HO
  isplitl [Hat]; · iexact Hat
  isplitl [Hr]; · iexact Hr
  iexact Hp

/-- A wait of one unit on a credit cell, `n` units taken before: among the duties taken now is one past the first `n`. -/
theorem wp_cwait (c : Dev nD) (s : SemLoc sig) {sem : Sem sig} (hs : SemLoc.reg sem = s) (ι n lo : ℕ) (hlo : lo ≤ 16) (ha : amountR (role s) = 1)
    (hd : (Rd (F := F) m).duties (cellAt c s) 0 = Finset.Ico lo 16) (O : CellTallies nD τ sig ℕ)
    (hm : (Levs : sProp 𝕄) ⊢ MayWait (c : Thread nD τ) s ι O) (T : Finset ℕ) (hT : T ⊆ Finset.Ico lo 16) :
    iprop(Ctx m ∗ cInv m (cellAt c s) ∗ cred (tallyAt (cellAt c s) ι 1) ∗ Owes c O ∗ atPos ER (cellAt c s) 0 T n
        ∗ bigSep T (fun d => (Rd m).payload (cellAt c s) 0 d))
      ⊢ iprop((∀ S : Finset ℕ, (⌜S ⊆ Finset.Ico lo 16 ∧ n + 1 ≤ S.card⌝ ∗ Owes c O ∗ atPos ER (cellAt c s) 0 S (n + 1)
            ∗ bigSep S (fun d => (Rd m).payload (cellAt c s) 0 d)) -∗ WP c (k ⟨⟩) Q)
          -∗ WP c (.op (.semWait sem 1) k) Q) := by
  subst hs
  unfold Owes cInv
  iintro ⟨#HC, ⟨%κ, #HI⟩, Hcr, ⟨%W, HO⟩, Hat, Hpay⟩ Hk
  ihave #Hlev := (ctx_lev m) $$ HC
  ihave HM := hm $$ Hlev
  have hx : (Rd (F := F) m).expect (cellAt c (.reg sem)) 0 = 16 - lo := by
    unfold Schedule.expect Schedule.amountOf
    rw [hd, Finset.sum_congr rfl (fun d _ => (amount_at m c (.reg sem) 0 d).trans ha), Finset.sum_const, smul_eq_mul, mul_one, Nat.card_Ico]
  iapply (Rounds.wp_wait 𝒱₀ ER (Rd m) (c : Thread nD τ) none (κ := κ)
      (wpE_semWait_eq 𝒱₀ (c : Thread nD τ) none Set.univ) (Set.mem_univ _) (cr := Finsupp.single ι 1) (O := O) (W := W) {(SemLoc.reg sem, ι)} (R := 0) (m := n) (T := T)
      (by rw [Util.total_single]) (image_single_subset _ ι 1)) $$ [Hcr HO Hat HM]
  · isplitr; · iexact HI
    isplitl [Hcr]; · iexact Hcr
    isplitl [HO]; · iexact HO
    isplitl [HM]; · iexact HM
    iexact Hat
  iintro %S ⟨%hS, HO, Hat, Hp⟩
  obtain ⟨h1, h2, h3⟩ := hS
  rw [hd] at h2 h3
  rw [hx] at h3
  change n + 1 + _ ≤ _ at h3
  iapply Hk $$ %S
  isplitr
  · ipureintro; refine ⟨h2, ?_⟩
    have := Finset.card_sdiff_add_card_eq_card h2
    rw [Nat.card_Ico] at this
    show n + 1 ≤ S.card
    omega
  isplitl [HO]; · iexists _; iexact HO
  isplitl [Hat]; · iexact Hat
  have hu : iprop(bigSep T (fun d => (Rd (F := F) m).payload (cellAt c (.reg sem)) 0 d) ∗ bigSep (S \ T) (fun d => (Rd m).payload (cellAt c (.reg sem)) 0 d))
      ⊢ bigSep S (fun d => (Rd m).payload (cellAt c (.reg sem)) 0 d) := Entails.of_eq (bigSep_sdiff_split h1).symm
  iapply hu
  isplitl [Hpay] <;> iassumption

/-- An exchange: the source share into the sender's cell, the destination written at the receiver into the receiver's. -/
theorem wp_put (c n : Dev nD) (sS sR : SemLoc sig) {s s' : DmaSem sig} (hs : SemLoc.dma s = sS) (hs' : SemLoc.dma s' = sR) {sp : Space}
    {src : Memref sig .tc sp S256x2048 .bf16} {dst : Memref sig .tc .vmem S256x2048 .bf16}
    {hsc : (dst : Memref sig (n : Thread nD τ).2.kind .vmem S256x2048 .bf16).view.ref.isScScratch = false} {hsrc : src.view.WordExact} {hdst : dst.view.WordExact}
    {hsem : DmaTarget.Typed sp (.dma s') (.remote (n : Thread nD τ) dst (.dma s) hsc)}
    (r₁ r₂ ι : ℕ) (hd₁ : (Rd (F := F) m).duties (cellAt c sS) r₁ = {0}) (hd₂ : (Rd (F := F) m).duties (cellAt n sR) r₂ = {0})
    (ha₁ : amountR (role sS) = NX) (ha₂ : amountR (role sR) = NX) (O O' : CellTallies nD τ sig ℕ) (hO : O = O' + tallyAt (cellAt n sR) ι NX)
    (q : PosShare TreeShare) (fs : Buf (Elt F) (src.view.loc (c : Thread nD τ)))
    (hp₁ : (src.view.loc (c : Thread nD τ) ↦[src.view.set]{q} fs) ⊢ (Rd (F := F) m).payload (cellAt c sS) r₁ 0)
    (hp₂ : owns (n : Thread nD τ) dst fullShare (src.view.read (Elt F) fs) ⊢ (Rd (F := F) m).payload (cellAt n sR) r₂ 0) :
    iprop(cInv m (cellAt c sS) ∗ cInv m (cellAt n sR) ∗ (src.view.loc (c : Thread nD τ) ↦[src.view.set]{q} fs)
        ∗ Release.slot (dst.view.loc (n : Thread nD τ)) dst.view.set ∗ Owes c O
        ∗ dutyTok ER (cellAt c sS) r₁ 0 ∗ reached ER (cellAt c sS) r₁ ∗ dutyTok ER (cellAt n sR) r₂ 0 ∗ reached ER (cellAt n sR) r₂)
      ⊢ iprop(((cred (tallyAt (cellAt c sS) 0 NX) ∗ Owes c O') -∗ WP c (k ⟨⟩) Q)
          -∗ WP c (.op (.enqueueDma src (.remote (n : Thread nD τ) dst (.dma s) hsc) (.dma s') hsrc hdst hsem) k) Q) := by
  subst hs hs'
  unfold Owes cInv Release.slot
  iintro ⟨⟨%κ₁, #HI⟩, ⟨%κ₂, #HI'⟩, Hs, ⟨%fd, Hd⟩, ⟨%W, HO⟩, Ht, #Hr, Ht', #Hr'⟩ Hk
  iapply (Rounds.wp_send_pointsTo 𝒱₀ ER (Rd m) (c : Thread nD τ) none (κ₁ := κ₁) (κ₂ := κ₂)
    (r₁ := r₁) (r₂ := r₂) (d₁ := 0) (d₂ := 0) (fd := fd)
    (by rw [hd₁]; exact Finset.mem_singleton_self _) (by rw [hd₂]; exact Finset.mem_singleton_self _)
    ι 0 NX (show dst.view.amount (.dma s') = NX from rfl) ha₁ ha₂ O' hO (W := W) hp₁
    (((owns_intro (n : Thread nD τ) dst fullShare _).trans (Entails.of_eq (by rw [View.read_write_univ]))).trans hp₂)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists _; iexact HO

/-- The copy of block `b` of the device's own operand into its slot. -/
theorem wp_lcopy (c : Dev nD) (b : ℕ) (hb : b < 16) {s : DmaSem sig} (hs : SemLoc.dma s = lsS b)
    {src : Memref sig .tc .hbm S512x2048 .bf16} (hsrcE : src = blkM b) {dst : Memref sig .tc .vmem S512x2048 .bf16} (hdstE : dst = lM b)
    {hsrc : src.view.WordExact} {hdst : dst.view.WordExact}
    {hsem : DmaTarget.Typed (nD := nD) .hbm (.dma s) (DmaTarget.here (p := (c : Thread nD τ).2) dst)} (q : PosShare TreeShare) :
    iprop(cInv m (cellAt c (lsS b)) ∗ (((c : Thread nD τ).loc main_arg0) ↦{q} m ((c : Thread nD τ).loc main_arg0))
        ∗ FrL c b ∗ dutyTok ER (cellAt c (lsS b)) (b / 3) 0 ∗ reached ER (cellAt c (lsS b)) (b / 3))
      ⊢ iprop(((cred (tallyAt (cellAt c (lsS b)) 0 NL) ∗ (((c : Thread nD τ).loc main_arg0) ↦{q.right} m ((c : Thread nD τ).loc main_arg0))) -∗ WP c (k ⟨⟩) Q)
          -∗ WP c (.op (.enqueueDma src (.here dst) (.dma s) hsrc hdst hsem) k) Q) := by
  subst hsrcE hdstE
  unfold cInv FrL Release.slot
  iintro ⟨⟨%κ, #HI⟩, Ha, ⟨%fd, Hd⟩, Ht, #Hr⟩ Hk
  ihave H2 := (pointsTo_share (PosShare.mem_left_op_right q)).1 $$ Ha
  icases H2 with ⟨Hl, Ha⟩
  ihave H3 := (pointsTo_split_subset (Finset.subset_univ (blkM b).view.set)).1 $$ Hl
  icases H3 with ⟨Hl, -⟩
  generalize hs' : lsS b = s' at hs
  subst hs
  iapply (Rounds.wp_copy_pointsTo 𝒱₀ ER (Rd m) (c : Thread nD τ) none (κ := κ) (q := q.left) (fs := m ((c : Thread nD τ).loc main_arg0)) (fd := fd) (r := b / 3) (d := 0)
    (by rw [← hs', duties_ls m c hb]; exact Finset.mem_singleton_self _) 0 NL (show (lM b).view.amount (.dma s) = NL from rfl) (by rw [← hs', amount_at, role_ls]; rfl)
    (by
      rw [← hs', pay_ls]; unfold LB
      exact Laws.sep_elim_left.trans ((owns_intro (c : Thread nD τ) (lM b) fullShare _).trans (Entails.of_eq (by rw [View.read_write_univ]))))) $$ [Hl Hd Ht]
  · isplitr; · iexact HI
    isplitl [Hl]; · iexact Hl
    isplitl [Hd]; · iexact Hd
    isplitl [Ht]; · iexact Ht
    iexact Hr
  iintro Hc
  iapply Hk
  isplitl [Hc]; · iexact Hc
  iexact Ha

/-- A unit signalled to a peer's cell. -/
theorem wp_unit (c n : Dev nD) (s : SemLoc sig) {sem : Sem sig} (hs : SemLoc.reg sem = s) (d ι : ℕ) (hd : d ∈ (Rd (F := F) m).duties (cellAt n s) 0)
    (ha : amountR (role s) = 1) (O O' : CellTallies nD τ sig ℕ) (hO : O = O' + tallyAt (cellAt n s) ι 1) :
    iprop(cInv m (cellAt n s) ∗ Owes c O ∗ dutyTok ER (cellAt n s) 0 d ∗ (Rd m).payload (cellAt n s) 0 d ∗ reached ER (cellAt n s) 0)
      ⊢ iprop((Owes c O' -∗ WP c (k ⟨⟩) Q) -∗ WP c (.op (.semSignal (n : Thread nD τ) sem 1) k) Q) := by
  subst hs
  unfold Owes cInv
  iintro ⟨⟨%κ, #HI⟩, ⟨%W, HO⟩, Ht, Hp, #Hr⟩ Hk
  iapply (Rounds.wp_signal 𝒱₀ ER (Rd m) (c : Thread nD τ) none (dst := (n : Thread nD τ)) (κ := κ) (d := d) hd ha ι O' hO) $$ [HO Ht Hp]
  · isplitr; · iexact HI
    isplitl [HO]; · iexact HO
    isplitl [Ht]; · iexact Ht
    isplitl [Hp]; · iexact Hp
    iexact Hr
  iintro HO
  iapply Hk
  iexists _; iexact HO

/-- Taking a slot handed over for block `b`. -/
theorem takeX (o : Dev nD) (b : ℕ) (hb : b < 16) :
    iprop(Ctx m ∗ Release.released ES (o, true, b) 1 ∗ Release.writeTok ES (o, true, b) 1) ⊢ (|={Set.univ}=> FrX o b : sProp 𝕄) := by
  iintro ⟨#HC, Hr, Hw⟩
  ihave HI := (ctx_slot m o true hb) $$ HC
  unfold sInv
  icases HI with ⟨%ι, HI⟩
  iapply (Release.slot_take ES (S := FrK (o, true, b)) (Set.mem_univ ι) 1)
  isplitl [HI]; · iexact HI
  isplitl [Hr] <;> iassumption
theorem takeY (o : Dev nD) (b : ℕ) (hb : b < 16) :
    iprop(Ctx m ∗ Release.released ES (o, false, b) 1 ∗ Release.writeTok ES (o, false, b) 1) ⊢ (|={Set.univ}=> FrY o b : sProp 𝕄) := by
  iintro ⟨#HC, Hr, Hw⟩
  ihave HI := (ctx_slot m o false hb) $$ HC
  unfold sInv
  icases HI with ⟨%ι, HI⟩
  iapply (Release.slot_take ES (S := FrK (o, false, b)) (Set.mem_univ ι) 1)
  isplitl [HI]; · iexact HI
  isplitl [Hr] <;> iassumption

theorem half_nonempty : (Finset.univ : Finset S256x2048.Idx).Nonempty := ⟨fun a => ⟨0, by revert a; decide⟩, Finset.mem_univ _⟩
theorem set_nonempty {sp : Space} (M : Memref sig .tc sp S256x2048 .bf16) : M.view.set.Nonempty := by
  obtain ⟨x, -⟩ := half_nonempty
  exact ⟨M.view.emb x, M.view.emb_mem_set x⟩

theorem FrK_x (o : Dev nD) (b : ℕ) : FrK (F := F) (o, true, b) = FrX o b := if_pos rfl
theorem FrK_y (o : Dev nD) (b : ℕ) : FrK (F := F) (o, false, b) = FrY o b := if_neg Bool.false_ne_true
/-- Handing a slot over for block `b`. -/
theorem giveX (o : Dev nD) (b : ℕ) (hb : b < 16) :
    iprop(Ctx m ∗ Release.readerAt ES (o, true, b) 0 ∗ FrX o b) ⊢ (|={Set.univ}=> Release.released ES (o, true, b) 1 : sProp 𝕄) := by
  rw [← FrK_x]
  iintro ⟨#HC, Hr, Hw⟩
  ihave HI := (ctx_slot m o true hb) $$ HC
  unfold sInv
  icases HI with ⟨%ι, HI⟩
  imod (Release.slot_release ES (S := FrK (o, true, b)) (Set.mem_univ ι) (Release.slot_slot_false (set_nonempty (xM b))) 0) $$ [HI Hr Hw] with ⟨-, H⟩
  · isplitl [HI]; · iexact HI
    isplitl [Hr]; · iexact Hr
    iexact Hw
  imodintro
  iexact H
theorem giveY (o : Dev nD) (b : ℕ) (hb : b < 16) :
    iprop(Ctx m ∗ Release.readerAt ES (o, false, b) 0 ∗ FrY o b) ⊢ (|={Set.univ}=> Release.released ES (o, false, b) 1 : sProp 𝕄) := by
  rw [← FrK_y]
  iintro ⟨#HC, Hr, Hw⟩
  ihave HI := (ctx_slot m o false hb) $$ HC
  unfold sInv
  icases HI with ⟨%ι, HI⟩
  imod (Release.slot_release ES (S := FrK (o, false, b)) (Set.mem_univ ι) (Release.slot_slot_false (set_nonempty (yM b))) 0) $$ [HI Hr Hw] with ⟨-, H⟩
  · isplitl [HI]; · iexact HI
    isplitl [Hr]; · iexact Hr
    iexact Hw
  imodintro
  iexact H

end Cert.KIProof

end
-- ==== Proof.State.lean ====
/- What a device holds between steps, block by block, and loads and stores through owned memrefs. -/
module

public import proofs.«01_k».proof.Proof.Effects
public import Idealize.SL.BI.BigOpNat

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Families over blocks -/

/-- A family over the blocks `a … e - 1`. -/
abbrev Blk (Φ : ℕ → sProp 𝕄) (a e : ℕ) : sProp 𝕄 := bigSep (Finset.Ico a e) Φ

theorem blk_take (Φ : ℕ → sProp 𝕄) {a e : ℕ} (h : a < e) : Blk Φ a e ⊢ iprop(Φ a ∗ Blk Φ (a + 1) e) :=
  Entails.of_eq (bigSep_Ico_succ_bot h Φ)
theorem blk_put (Φ : ℕ → sProp 𝕄) {a e : ℕ} (h : a ≤ e) : iprop(Φ e ∗ Blk Φ a e) ⊢ Blk Φ a (e + 1) :=
  Entails.of_eq (bigSep_Ico_succ_top h Φ).symm
/-- The same blocks under other bounds. -/
theorem blk_re (Φ : ℕ → sProp 𝕄) (a e a' e' : ℕ) (h : (a = a' ∧ e = e') ∨ (e ≤ a ∧ e' ≤ a')) : Blk Φ a e ⊢ Blk Φ a' e' := by
  rcases h with ⟨rfl, rfl⟩ | ⟨h, h'⟩
  · exact .rfl
  · show bigSep _ _ ⊢ bigSep _ _
    rw [Finset.Ico_eq_empty_of_le h, Finset.Ico_eq_empty_of_le h']
/-- One block's part, read. -/
theorem blk_get (Φ : ℕ → sProp 𝕄) {a e b : ℕ} (h : a ≤ b ∧ b < e) : Blk Φ a e ⊢ Φ b :=
  bigSep_elim (Finset.mem_Ico.mpr h)

/-! ## What a device holds for a block -/

section Parts

variable (c : Dev nD)

/-- The right to exchange block `b`. -/
def aX (b : ℕ) : sProp 𝕄 :=
  iprop(dutyTok ER (cellAt c (xsS b)) (b / 4) 0 ∗ dutyTok ER (cellAt (xp c) (xrS b)) (b / 4) 0 ∗ Release.writeTok ES (xp c, true, b) 1)
/-- The right to forward it. -/
def aY (b : ℕ) : sProp 𝕄 :=
  iprop(dutyTok ER (cellAt c (ysS b)) (b / 3) 0 ∗ dutyTok ER (cellAt (yp c) (yrS b)) (b / 3) 0 ∗ Release.writeTok ES (yp c, false, b) 1)
/-- The right to copy it. -/
def aL (b : ℕ) : sProp 𝕄 := dutyTok ER (cellAt c (lsS b)) (b / 3) 0

/-- The credits of the waits for it. -/
def cX (b : ℕ) : sProp 𝕄 := cred (tallyAt (cellAt c (xrS b)) (lx b) NX)
def cY (b : ℕ) : sProp 𝕄 := cred (tallyAt (cellAt c (yrS b)) (ly b) NX)
def cC (b : ℕ) : sProp 𝕄 := cred (tallyAt (cellAt c xcS) (lxc b) 1)
def cD (b : ℕ) : sProp 𝕄 := cred (tallyAt (cellAt c ycS) (lyc b) 1)
def kX (b : ℕ) : sProp 𝕄 := cred (tallyAt (cellAt c (xsS b)) 0 NX)
def kY (b : ℕ) : sProp 𝕄 := cred (tallyAt (cellAt c (ysS b)) 0 NX)
def kL (b : ℕ) : sProp 𝕄 := cred (tallyAt (cellAt c (lsS b)) 0 NL)

/-- The positions of its cells. -/
def pX (b : ℕ) : sProp 𝕄 :=
  iprop((atPos ER (cellAt c (xsS b)) (b / 4) ∅ 0 ∗ reached ER (cellAt c (xsS b)) (b / 4))
    ∗ atPos ER (cellAt c (xrS b)) (b / 4) ∅ 0 ∗ reached ER (cellAt c (xrS b)) (b / 4))
def pY (b : ℕ) : sProp 𝕄 :=
  iprop((atPos ER (cellAt c (ysS b)) (b / 3) ∅ 0 ∗ reached ER (cellAt c (ysS b)) (b / 3))
    ∗ atPos ER (cellAt c (yrS b)) (b / 3) ∅ 0 ∗ reached ER (cellAt c (yrS b)) (b / 3))
def pL (b : ℕ) : sProp 𝕄 := iprop(atPos ER (cellAt c (lsS b)) (b / 3) ∅ 0 ∗ reached ER (cellAt c (lsS b)) (b / 3))

/-- The half of the row slot's share kept while block `b` is forwarded. -/
def hX (b : ℕ) : sProp 𝕄 := owns (c : Thread nD τ) (xM b) (fullShare : PosShare TreeShare).left (XB m (xp c) b (yc c))

/-- The right to hand back the row slot for block `b`, and the forwarding slot. -/
def tX (b : ℕ) : sProp 𝕄 := iprop(Release.readerAt ES (c, true, b) 0 ∗ dutyTok ER (cellAt (xp c) xcS) 0 b)
def tY (b : ℕ) : sProp 𝕄 := iprop(Release.readerAt ES (c, false, b) 0 ∗ dutyTok ER (cellAt (yp c) ycS) 0 b)

/-- The credits taken so far: at least `n` of them, with what they vouch for. -/
def QX (n : ℕ) : sProp 𝕄 :=
  iprop(∃ T : Finset ℕ, ⌜T ⊆ Finset.Ico 4 16 ∧ n ≤ T.card⌝ ∗ atPos ER (cellAt c xcS) 0 T n ∗ bigSep T (fun d => (Rd m).payload (cellAt c xcS) 0 d))
def QY (n : ℕ) : sProp 𝕄 :=
  iprop(∃ T : Finset ℕ, ⌜T ⊆ Finset.Ico 3 16 ∧ n ≤ T.card⌝ ∗ atPos ER (cellAt c ycS) 0 T n ∗ bigSep T (fun d => (Rd m).payload (cellAt c ycS) 0 d))

/-- The operand, at some share. -/
def Arg : sProp 𝕄 := iprop(∃ q : PosShare TreeShare, ((c : Thread nD τ).loc main_arg0) ↦{q} m ((c : Thread nD τ).loc main_arg0))

/-! ## What a device holds before step `u`, by what changes it -/

/-- For exchanging blocks from `u + 1`. -/
def SA (u : ℕ) : sProp 𝕄 :=
  iprop(Blk (aX c) (u + 1) 16 ∗ FX (xp c) (min 16 (max 4 (u + 1))) ∗ QX m c (min (u - 3) 12) ∗ Blk (cC c) (max 4 (u + 1)) 16)
/-- For copying blocks from `u`, and the credits of forwarding. -/
def SB (u : ℕ) : sProp 𝕄 :=
  iprop(Blk (aL c) u 16 ∗ FY (yp c) (min 16 (max 3 (u - 1))) ∗ QY m c (min (u - 4) 13) ∗ Blk (cD c) (max 3 (u - 1)) 16)
/-- For forwarding blocks from `u - 1`. -/
def SC (u : ℕ) : sProp 𝕄 := iprop(Blk (cX c) (u - 1) 16 ∗ Blk (pX c) (min (u - 1) 16) (min (u - 1) 16 + 4) ∗ Blk (aY c) (u - 1) 16)
/-- For finishing blocks from `u - 2`. -/
def SD (u : ℕ) : sProp 𝕄 := iprop(Blk (cY c) (u - 2) 16 ∗ Blk (pY c) (u - 2) (u - 2 + 3) ∗ Blk (pL c) (u - 2) (u - 2 + 3))
/-- For handing slots back. -/
def SE (u : ℕ) : sProp 𝕄 := iprop(Blk (tX c) (max 4 (u + 2)) 16 ∗ FX c (min 16 (max 4 (u + 2))) ∗ Blk (FrX c) 16 (u + 2))
def SF (u : ℕ) : sProp 𝕄 := iprop(Blk (tY c) (max 3 (u + 1)) 16 ∗ FY c (min 16 (max 3 (u + 1))) ∗ Blk (FrY c) 16 (u + 1))

/-- What is in flight and what is half finished. -/
def SG (u : ℕ) : sProp 𝕄 :=
  iprop(Blk (kX c) (u - 1) (min (u + 1) 16) ∗ Blk (kY c) (u - 2) (min (u - 1) 16) ∗ Blk (hX m c) (u - 2) (min (u - 1) 16)
    ∗ Blk (kL c) (u - 2) (min u 16) ∗ Blk (FrL c) (min u 16) (max 3 (u + 1)))

/-- Everything, the debts apart. -/
def St (u : ℕ) : sProp 𝕄 :=
  iprop(SA m c u ∗ SB m c u ∗ SC c u ∗ SD c u ∗ SE c u ∗ SF c u ∗ SG m c u ∗ Arg m c ∗ semVal (cellAt c barS) 0)

/-- The debts before step `u`, the first exchange made. -/
abbrev OS (u : ℕ) : CellTallies nD τ sig ℕ := OO c (u + 1) (u - 1) (max 4 (u + 2)) (max 3 (u + 1))

end Parts

section Start

variable (c : Dev nD)

/-- What a device holds before the first step, the debts apart. -/
def Start : sProp 𝕄 :=
  iprop(Blk (aX c) 0 16 ∗ QX m c 0 ∗ Blk (cC c) 4 16
    ∗ Blk (aL c) 0 16 ∗ QY m c 0 ∗ Blk (cD c) 3 16
    ∗ SC c 0 ∗ SD c 0
    ∗ Blk (tX c) 4 16 ∗ Blk (fun b => iprop(Release.readerAt ES (c, true, b) 0 ∗ FrX c b)) 0 4
    ∗ Blk (tY c) 3 16 ∗ Blk (fun b => iprop(Release.readerAt ES (c, false, b) 0 ∗ FrY c b)) 0 3
    ∗ Blk (FrL c) 0 3
    ∗ (dutyTok ER (cellAt (xp c) barS) 0 0 ∗ dutyTok ER (cellAt (yp c) barS) 0 1 ∗ atPos ER (cellAt c barS) 0 ∅ 0
      ∗ cred (tallyAt (cellAt c barS) 1 2))
    ∗ Arg m c)

end Start

/-! ## Reading and writing through owned memrefs -/

section Mem

variable {c : Dev nD} {α : Type} {Q : α → sProp (MT nD τ sig ℕ (Elt F) ℕ UU ℕ)}

/-- A load from a memref owned at `X`. -/
theorem wp_oload {sp : CoreSpace} {s : Shape} {e : EltTy} {M : Memref sig .tc sp s e} {r : Rect s} {hl : M.view.LoadsAt r.toLoadRect}
    {k : (r.shape.Idx → Elt F e) → Prog (TpuEff nD τ sig (Elt F) Λ₀ .tc) α} (q : PosShare TreeShare) (X : s.Idx → Elt F e) :
    (owns (c : Thread nD τ) M q X : sProp 𝕄) ⊢ iprop((owns (c : Thread nD τ) M q X -∗ WP c (k (fun x => X (r.emb x))) Q) -∗ WP c (.op (.load M r.toLoadRect hl) k) Q) := by
  iintro H Hk
  ihave H' := (show owns (c : Thread nD τ) M q X ⊢ iprop(∃ g, ⌜M.view.read (Elt F) g = X⌝ ∗ M.view.loc (c : Thread nD τ) ↦[M.view.set]{q} g) from .rfl) $$ H
  icases H' with ⟨%g, %hg, H⟩
  subst hg
  iapply (wp_load_rect 𝒱₀ (c : Thread nD τ) none Set.univ (m := M) (r := r) (M.view.set_slice_subset r)) $$ H
  iintro H
  iapply Hk
  iapply (owns_intro (c : Thread nD τ) M q g)
  iexact H

/-- A load through a rectangle of a buffer from the slot it names, owned at `X`. -/
theorem wp_sload {s s₂ : Shape} {e : EltTy} {M : Memref sig .tc .vmem s e} {r : Rect s} {hr : ∀ a, r.stride a = 1} {hq : r.shape.Squeezes s₂}
    {hl : M.view.LoadsAt r.toLoadRect}
    {k : (r.shape.Idx → Elt F e) → Prog (TpuEff nD τ sig (Elt F) Λ₀ .tc) α} (N : Memref sig .tc .vmem s₂ e) (hN : (M.slice r hr).squeeze s₂ hq = N)
    (q : PosShare TreeShare) (X : s₂.Idx → Elt F e) :
    (owns (c : Thread nD τ) N q X : sProp 𝕄)
      ⊢ iprop((owns (c : Thread nD τ) N q X -∗ WP c (k (fun x => X (Shape.reshapeEquiv hq.numel_eq.symm x))) Q) -∗ WP c (.op (.load M r.toLoadRect hl) k) Q) := by
  subst hN
  iintro H Hk
  ihave H' := (show owns (c : Thread nD τ) ((M.slice r hr).squeeze s₂ hq) q X
    ⊢ iprop(∃ g, ⌜((M.slice r hr).squeeze s₂ hq).view.read (Elt F) g = X⌝ ∗ M.view.loc (c : Thread nD τ) ↦[((M.slice r hr).squeeze s₂ hq).view.set]{q} g) from .rfl) $$ H
  icases H' with ⟨%g, %hg, H⟩
  subst hg
  iapply (wp_load_rect 𝒱₀ (c : Thread nD τ) none Set.univ (m := M) (r := r) (S := ((M.slice r hr).squeeze s₂ hq).view.set)
    (by rw [Memref.set_view_squeeze])) $$ H
  iintro H
  ihave H := (owns_intro (c : Thread nD τ) ((M.slice r hr).squeeze s₂ hq) q g) $$ H
  ihave H := Hk $$ H
  have he : (M.access r).read (Elt F) g
      = fun x => ((M.slice r hr).squeeze s₂ hq).view.read (Elt F) g (Shape.reshapeEquiv hq.numel_eq.symm x) := by
    funext x
    show (M.access r).read (Elt F) g x = (M.access r).read (Elt F) g (Shape.reshapeEquiv _ (Shape.reshapeEquiv _ x))
    rw [Shape.reshapeEquiv_reshapeEquiv, Shape.reshapeEquiv_self]
  rw [he]
  iexact H

/-- A store into a memref owned at `X`. -/
theorem wp_ostore {s : Shape} {e : EltTy} {M : Memref sig .tc .vmem s e} {r : Rect s} {w : r.shape.Idx → Elt F e}
    {hx : (M.access r).Stores Finset.univ} {hm : Finset.univ = Finset.univ ∨ ∀ a, r.stride a = 1}
    {k : PUnit → Prog (TpuEff nD τ sig (Elt F) Λ₀ .tc) α} (X : s.Idx → Elt F e) :
    (owns (c : Thread nD τ) M fullShare X : sProp 𝕄)
      ⊢ iprop((owns (c : Thread nD τ) M fullShare (r.overlay X w) -∗ WP c (k ⟨⟩) Q) -∗ WP c (.op (.store M r w Finset.univ hx hm) k) Q) := by
  iintro H Hk
  ihave H' := (show owns (c : Thread nD τ) M fullShare X ⊢ iprop(∃ g, ⌜M.view.read (Elt F) g = X⌝ ∗ M.view.loc (c : Thread nD τ) ↦[M.view.set]{fullShare} g) from .rfl) $$ H
  icases H' with ⟨%g, %hg, H⟩
  subst hg
  iapply (wp_store 𝒱₀ (c : Thread nD τ) none Set.univ (Q := Q) (w := w) (hx := hx) (hm := hm) (k := k) (Mk := Finset.univ) (f := g)
    (S := M.view.set) (by rw [View.setOn_univ]; exact M.view.set_slice_subset r)) $$ H
  iintro H
  iapply Hk
  have he : r.overlay (M.view.read (Elt F) g) w = M.view.read (Elt F) ((M.access r).write (Elt F) g w Finset.univ) := by
    funext y
    by_cases hy : y ∈ r.set
    · obtain ⟨x, rfl⟩ := r.exists_idx_of_mem hy
      refine (r.overlay_emb _ w x).trans ?_
      exact (View.read_slice_write_emb (v := M.view) r g w (Finset.mem_univ x)).symm
    · rw [Rect.overlay_of_not_mem _ _ _ hy]
      exact (View.read_slice_write_of_not_mem (v := M.view) r g w _ (by rw [Rect.map_emb_univ]; exact hy)).symm
  rw [he]
  iapply (owns_intro (c : Thread nD τ) M fullShare _)
  iexact H

end Mem

end Cert.KIProof

end
-- ==== Proof.Moves.lean ====
/- One block's moves, each as one rule: credits taken, exchanges sent, waits, slots handed back. -/
module

public import proofs.«01_k».proof.Proof.State

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable {α : Type} {k : PUnit → Prog (TpuEff nD τ sig (Elt F) Λ₀ .tc) α} {Q : α → sProp (MT nD τ sig ℕ (Elt F) ℕ UU ℕ)}

theorem may (c : Dev nD) (s : SemLoc sig) (k a b e f : ℕ) (hk : k < 200) (ha : k < 10 * a + 17) (hb : k < 10 * b + 28)
    (he : k + 7 < 10 * e) (hf : k < 10 * f + 16) : (Levs : sProp 𝕄) ⊢ MayWait (c : Thread nD τ) s k (OO c a b e f) := by
  unfold Levs; exact may_OO c s k a b e f hk ha hb he hf

/-! ## What the records say -/

theorem FX_get (o : Dev nD) {n b : ℕ} (h : b < n) :
    FX (F := F) o n ⊢ iprop(Release.released ES (o, true, b) 1 ∗ reached ER (cellAt o (xrS b)) (b / 4)) := by
  unfold FX; exact bigSep_elim (Finset.mem_range.mpr h)
theorem FY_get (o : Dev nD) {n b : ℕ} (h : b < n) :
    FY (F := F) o n ⊢ iprop(Release.released ES (o, false, b) 1 ∗ reached ER (cellAt o (yrS b)) (b / 3)) := by
  unfold FY; exact bigSep_elim (Finset.mem_range.mpr h)
theorem FX_mono (o : Dev nD) {n n' : ℕ} (h : n ≤ n') : FX (F := F) o n' ⊢ FX o n := by
  unfold FX; exact bigSep_subset (Finset.range_subset_range.mpr h)
theorem FY_mono (o : Dev nD) {n n' : ℕ} (h : n ≤ n') : FY (F := F) o n' ⊢ FY o n := by
  unfold FY; exact bigSep_subset (Finset.range_subset_range.mpr h)
theorem FX_succ (o : Dev nD) (n : ℕ) :
    iprop((Release.released ES (o, true, n) 1 ∗ reached ER (cellAt o (xrS n)) (n / 4)) ∗ FX o n) ⊢ FX (F := F) o (n + 1) := by
  unfold FX; exact Entails.of_eq (by rw [bigSep_range_succ])
theorem FY_succ (o : Dev nD) (n : ℕ) :
    iprop((Release.released ES (o, false, n) 1 ∗ reached ER (cellAt o (yrS n)) (n / 3)) ∗ FY o n) ⊢ FY (F := F) o (n + 1) := by
  unfold FY; exact Entails.of_eq (by rw [bigSep_range_succ])

/-- Of `n + 1` numbers from `lo` on, one is at least `lo + n`. -/
theorem exists_ge {lo n : ℕ} {S : Finset ℕ} (h : S ⊆ Finset.Ico lo 16) (hn : n + 1 ≤ S.card) : ∃ d ∈ S, lo + n ≤ d := by
  by_contra hc
  simp only [not_exists, not_and, not_le] at hc
  have hs : S ⊆ Finset.Ico lo (lo + n) := fun d hd => Finset.mem_Ico.mpr ⟨(Finset.mem_Ico.mp (h hd)).1, hc d hd⟩
  have := Finset.card_le_card hs
  rw [Nat.card_Ico] at this
  omega

/-! ## One block's moves -/

/-- One more row credit taken: the row slots up to the next block have been handed over. -/
theorem wait_xc (c : Dev nD) {sem : Sem sig} (hs : SemLoc.reg sem = xcS) (b n : ℕ) (O : CellTallies nD τ sig ℕ)
    (hm : (Levs : sProp 𝕄) ⊢ MayWait (c : Thread nD τ) xcS (lxc b) O) :
    iprop(Ctx m ∗ QX m c n ∗ cC c b ∗ Owes c O)
      ⊢ iprop(((QX m c (n + 1) ∗ FX (xp c) (n + 5) ∗ Owes c O) -∗ WP c (k ⟨⟩) Q) -∗ WP c (.op (.semWait sem 1) k) Q) := by
  unfold QX cC
  iintro ⟨#HC, ⟨%T, %hT, Hat, Hpay⟩, Hcr, HO⟩ Hk
  ihave #HI := (ctx_xc m c) $$ HC
  iapply (wp_cwait m c xcS hs (lxc b) n 4 (by decide) (by rw [role_xc]; rfl) (duties_xc m c) O hm T hT.1) $$ [Hcr HO Hat Hpay]
  · isplitr; · iexact HC
    isplitr; · iexact HI
    isplitl [Hcr]; · iexact Hcr
    isplitl [HO]; · iexact HO
    isplitl [Hat] <;> iassumption
  iintro %S ⟨%hS, HO, Hat, Hpay⟩
  obtain ⟨d, hd, hle⟩ := exists_ge hS.1 hS.2
  have hp : bigSep S (fun d => (Rd (F := F) m).payload (cellAt c xcS) 0 d) = bigSep S (fun d => FX (xp c) (d + 1)) :=
    bigSep_congr fun d _ => pay_xc m c d
  ihave #HF := (Entails.of_eq hp) $$ Hpay
  iapply Hk
  isplitl [Hat]
  · iexists S
    isplitr; · ipureintro; exact hS
    isplitl [Hat]; · iexact Hat
    iapply (Entails.of_eq hp.symm); iexact HF
  isplitr
  · iapply (FX_mono (F := F) (xp c) (show n + 5 ≤ d + 1 by omega))
    have hx : bigSep S (fun d => FX (F := F) (xp c) (d + 1)) ⊢ FX (xp c) (d + 1) := bigSep_elim hd
    iapply hx; iexact HF
  iexact HO

/-- One more forwarding credit taken. -/
theorem wait_yc (c : Dev nD) {sem : Sem sig} (hs : SemLoc.reg sem = ycS) (b n : ℕ) (O : CellTallies nD τ sig ℕ)
    (hm : (Levs : sProp 𝕄) ⊢ MayWait (c : Thread nD τ) ycS (lyc b) O) :
    iprop(Ctx m ∗ QY m c n ∗ cD c b ∗ Owes c O)
      ⊢ iprop(((QY m c (n + 1) ∗ FY (yp c) (n + 4) ∗ Owes c O) -∗ WP c (k ⟨⟩) Q) -∗ WP c (.op (.semWait sem 1) k) Q) := by
  unfold QY cD
  iintro ⟨#HC, ⟨%T, %hT, Hat, Hpay⟩, Hcr, HO⟩ Hk
  ihave #HI := (ctx_yc m c) $$ HC
  iapply (wp_cwait m c ycS hs (lyc b) n 3 (by decide) (by rw [role_yc]; rfl) (duties_yc m c) O hm T hT.1) $$ [Hcr HO Hat Hpay]
  · isplitr; · iexact HC
    isplitr; · iexact HI
    isplitl [Hcr]; · iexact Hcr
    isplitl [HO]; · iexact HO
    isplitl [Hat] <;> iassumption
  iintro %S ⟨%hS, HO, Hat, Hpay⟩
  obtain ⟨d, hd, hle⟩ := exists_ge hS.1 hS.2
  have hp : bigSep S (fun d => (Rd (F := F) m).payload (cellAt c ycS) 0 d) = bigSep S (fun d => FY (yp c) (d + 1)) :=
    bigSep_congr fun d _ => pay_yc m c d
  ihave #HF := (Entails.of_eq hp) $$ Hpay
  iapply Hk
  isplitl [Hat]
  · iexists S
    isplitr; · ipureintro; exact hS
    isplitl [Hat]; · iexact Hat
    iapply (Entails.of_eq hp.symm); iexact HF
  isplitr
  · iapply (FY_mono (F := F) (yp c) (show n + 4 ≤ d + 1 by omega))
    have hx : bigSep S (fun d => FY (F := F) (yp c) (d + 1)) ⊢ FY (yp c) (d + 1) := bigSep_elim hd
    iapply hx; iexact HF
  iexact HO

/-- Block `b`'s half of the device's own operand sent into the peer's row slot. -/
theorem put_x (c n : Dev nD) (hn : n = xp c) (b : ℕ) (hb : b < 16) {s s' : DmaSem sig} (hs : SemLoc.dma s = xsS b) (hs' : SemLoc.dma s' = xrS b)
    {src : Memref sig .tc .hbm S256x2048 .bf16} (hsrcE : src = rowsM b (yc c)) {dst : Memref sig .tc .vmem S256x2048 .bf16} (hdstE : dst = xM b)
    {hsc : (dst : Memref sig (n : Thread nD τ).2.kind .vmem S256x2048 .bf16).view.ref.isScScratch = false} {hsrc : src.view.WordExact} {hdst : dst.view.WordExact}
    {hsem : DmaTarget.Typed .hbm (.dma s') (.remote (n : Thread nD τ) dst (.dma s) hsc)}
    (w : ℕ) (hw : b < w) (O O' : CellTallies nD τ sig ℕ) (hO : O = O' + tallyAt (cellAt (xp c) (xrS b)) (lx b) NX) :
    iprop(Ctx m ∗ aX c b ∗ FX (xp c) w ∗ reached ER (cellAt c (xsS b)) (b / 4) ∗ Arg m c ∗ Owes c O)
      ⊢ iprop(((kX c b ∗ Arg m c ∗ Owes c O') -∗ WP c (k ⟨⟩) Q)
          -∗ WP c (.op (.enqueueDma src (.remote (n : Thread nD τ) dst (.dma s) hsc) (.dma s') hsrc hdst hsem) k) Q) := by
  subst hsrcE hdstE hn
  unfold aX kX Arg
  iintro ⟨#HC, ⟨Ht, Ht', Hw⟩, #HF, #Hr, ⟨%q, Ha⟩, HO⟩ Hk
  ihave #HI := (ctx_xs m c b) $$ HC
  ihave #HI' := (ctx_xr m (xp c) b) $$ HC
  ihave #HR := (FX_get (F := F) (xp c) hw) $$ HF
  icases HR with ⟨#Hrel, #Hr'⟩
  imod (takeX m (xp c) b hb) $$ [Hw] with Hfree
  · isplitr; · iexact HC
    isplitr; · iexact Hrel
    iexact Hw
  unfold FrX
  ihave H2 := (pointsTo_share (PosShare.mem_left_op_right q)).1 $$ Ha
  icases H2 with ⟨Hl, Ha⟩
  ihave H3 := (pointsTo_split_subset (Finset.subset_univ (rowsM b (yc c)).view.set)).1 $$ Hl
  icases H3 with ⟨Hl, -⟩
  iapply (wp_put m c (xp c) (xsS b) (xrS b) hs hs' (b / 4) (b / 4) (lx b) (duties_xs m c hb) (duties_xr m (xp c) hb)
    (by rw [role_xs]; rfl) (by rw [role_xr]; rfl) O O' hO q.left (m ((c : Thread nD τ).loc main_arg0))
    (by rw [pay_xs]; iintro -; iempintro)
    (by rw [pay_xr, xp_xp, yc_xp]; exact .rfl)) $$ [Hl Hfree HO Ht Ht']
  · isplitr; · iexact HI
    isplitr; · iexact HI'
    isplitl [Hl]; · iexact Hl
    isplitl [Hfree]; · iexact Hfree
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  isplitl [Ha]; · iexists _; iexact Ha
  iexact HO

/-- The received rows of block `b` sent on into the second peer's forwarding slot. -/
theorem put_y (c n : Dev nD) (hn : n = yp c) (b : ℕ) (hb : b < 16) {s s' : DmaSem sig} (hs : SemLoc.dma s = ysS b) (hs' : SemLoc.dma s' = yrS b)
    {src : Memref sig .tc .vmem S256x2048 .bf16} (hsrcE : src = xM b) {dst : Memref sig .tc .vmem S256x2048 .bf16} (hdstE : dst = yM b)
    {hsc : (dst : Memref sig (n : Thread nD τ).2.kind .vmem S256x2048 .bf16).view.ref.isScScratch = false} {hsrc : src.view.WordExact} {hdst : dst.view.WordExact}
    {hsem : DmaTarget.Typed .vmem (.dma s') (.remote (n : Thread nD τ) dst (.dma s) hsc)}
    (w : ℕ) (hw : b < w) (O O' : CellTallies nD τ sig ℕ) (hO : O = O' + tallyAt (cellAt (yp c) (yrS b)) (ly b) NX) :
    iprop(Ctx m ∗ aY c b ∗ FY (yp c) w ∗ reached ER (cellAt c (ysS b)) (b / 3)
        ∗ owns (c : Thread nD τ) (xM b) (fullShare : PosShare TreeShare).right (XB m (xp c) b (yc c)) ∗ Owes c O)
      ⊢ iprop(((kY c b ∗ Owes c O') -∗ WP c (k ⟨⟩) Q)
          -∗ WP c (.op (.enqueueDma src (.remote (n : Thread nD τ) dst (.dma s) hsc) (.dma s') hsrc hdst hsem) k) Q) := by
  subst hsrcE hdstE hn
  unfold aY kY
  iintro ⟨#HC, ⟨Ht, Ht', Hw⟩, #HF, #Hr, Hx, HO⟩ Hk
  ihave #HI := (ctx_ys m c b) $$ HC
  ihave #HI' := (ctx_yr m (yp c) b) $$ HC
  ihave #HR := (FY_get (F := F) (yp c) hw) $$ HF
  icases HR with ⟨#Hrel, #Hr'⟩
  imod (takeY m (yp c) b hb) $$ [Hw] with Hfree
  · isplitr; · iexact HC
    isplitr; · iexact Hrel
    iexact Hw
  unfold FrY
  ihave H' := (show owns (c : Thread nD τ) (xM b) (fullShare : PosShare TreeShare).right (XB m (xp c) b (yc c))
    ⊢ iprop(∃ g, ⌜(xM b).view.read (Elt F) g = XB m (xp c) b (yc c)⌝ ∗ (xM b).view.loc (c : Thread nD τ) ↦[(xM b).view.set]{(fullShare : PosShare TreeShare).right} g) from .rfl) $$ Hx
  icases H' with ⟨%g, %hg, Hl⟩
  have hy : (1 : ℕ) - (1 - yc c) = yc c := by have := yc_lt c; omega
  iapply (wp_put m c (yp c) (ysS b) (yrS b) hs hs' (b / 3) (b / 3) (ly b) (duties_ys m c hb) (duties_yr m (yp c) hb)
    (by rw [role_ys]; rfl) (by rw [role_yr]; rfl) O O' hO (fullShare : PosShare TreeShare).right g
    (by rw [pay_ys, ← hg]; exact owns_intro (c : Thread nD τ) (xM b) _ g)
    (by rw [pay_yr, yp_yp, yc_yp, hy, hg])) $$ [Hl Hfree HO Ht Ht']
  · isplitr; · iexact HI
    isplitr; · iexact HI'
    isplitl [Hl]; · iexact Hl
    isplitl [Hfree]; · iexact Hfree
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexact HO

/-- The row slot handed back for block `b`. -/
theorem give_x (c n : Dev nD) (hn : n = xp c) (b : ℕ) (hb : 4 ≤ b ∧ b < 16) {sem : Sem sig} (hs : SemLoc.reg sem = xcS)
    (O O' : CellTallies nD τ sig ℕ) (hO : O = O' + tallyAt (cellAt (xp c) xcS) (lxc b) 1) :
    iprop(Ctx m ∗ tX c b ∗ FrX c b ∗ reached ER (cellAt c (xrS b)) (b / 4) ∗ FX c b ∗ Owes c O)
      ⊢ iprop(((FX c (b + 1) ∗ Owes c O') -∗ WP c (k ⟨⟩) Q) -∗ WP c (.op (.semSignal (n : Thread nD τ) sem 1) k) Q) := by
  subst hn
  unfold tX
  iintro ⟨#HC, ⟨Hrd, Ht⟩, Hfr, #Hr, #HF, HO⟩ Hk
  ihave #HI := (ctx_xc m (xp c)) $$ HC
  ihave #H0 := (ctx_reached m (xp c) 17 (show csem 17 = xcS from rfl)) $$ HC
  imod (giveX m c b hb.2) $$ [Hrd Hfr] with #Hrel
  · isplitr; · iexact HC
    isplitl [Hrd] <;> iassumption
  ihave #HF' := (FX_succ (F := F) c b) $$ []
  · isplitr
    · isplitr; · iexact Hrel
      iexact Hr
    iexact HF
  iapply (wp_unit m c (xp c) xcS hs b (lxc b) (by rw [duties_xc]; exact Finset.mem_Ico.mpr hb) (by rw [role_xc]; rfl) O O' hO) $$ [HO Ht]
  · isplitr; · iexact HI
    isplitl [HO]; · iexact HO
    isplitl [Ht]; · iexact Ht
    isplitr; · rw [pay_xc, xp_xp]; iexact HF'
    iexact H0
  iintro HO
  iapply Hk
  isplitr; · iexact HF'
  iexact HO

/-- The forwarding slot handed back for block `b`. -/
theorem give_y (c n : Dev nD) (hn : n = yp c) (b : ℕ) (hb : 3 ≤ b ∧ b < 16) {sem : Sem sig} (hs : SemLoc.reg sem = ycS)
    (O O' : CellTallies nD τ sig ℕ) (hO : O = O' + tallyAt (cellAt (yp c) ycS) (lyc b) 1) :
    iprop(Ctx m ∗ tY c b ∗ FrY c b ∗ reached ER (cellAt c (yrS b)) (b / 3) ∗ FY c b ∗ Owes c O)
      ⊢ iprop(((FY c (b + 1) ∗ Owes c O') -∗ WP c (k ⟨⟩) Q) -∗ WP c (.op (.semSignal (n : Thread nD τ) sem 1) k) Q) := by
  subst hn
  unfold tY
  iintro ⟨#HC, ⟨Hrd, Ht⟩, Hfr, #Hr, #HF, HO⟩ Hk
  ihave #HI := (ctx_yc m (yp c)) $$ HC
  ihave #H0 := (ctx_reached m (yp c) 18 (show csem 18 = ycS from rfl)) $$ HC
  imod (giveY m c b hb.2) $$ [Hrd Hfr] with #Hrel
  · isplitr; · iexact HC
    isplitl [Hrd] <;> iassumption
  ihave #HF' := (FY_succ (F := F) c b) $$ []
  · isplitr
    · isplitr; · iexact Hrel
      iexact Hr
    iexact HF
  iapply (wp_unit m c (yp c) ycS hs b (lyc b) (by rw [duties_yc]; exact Finset.mem_Ico.mpr hb) (by rw [role_yc]; rfl) O O' hO) $$ [HO Ht]
  · isplitr; · iexact HI
    isplitl [HO]; · iexact HO
    isplitl [Ht]; · iexact Ht
    isplitr; · rw [pay_yc, yp_yp]; iexact HF'
    iexact H0
  iintro HO
  iapply Hk
  isplitr; · iexact HF'
  iexact HO

/-- The next block of a slot stands at the next round. -/
theorem next4 (c : Dev nD) (b : ℕ) : cellAt c (xsS (b + 4)) = cellAt c (xsS b) ∧ cellAt c (xrS (b + 4)) = cellAt c (xrS b) ∧ (b + 4) / 4 = b / 4 + 1 :=
  ⟨by rw [xsS_congr (show (b + 4) % 4 = b % 4 by omega)], by rw [xrS_congr (show (b + 4) % 4 = b % 4 by omega)], by omega⟩
theorem next3 (c : Dev nD) (b : ℕ) : cellAt c (ysS (b + 3)) = cellAt c (ysS b) ∧ cellAt c (yrS (b + 3)) = cellAt c (yrS b)
    ∧ cellAt c (lsS (b + 3)) = cellAt c (lsS b) ∧ (b + 3) / 3 = b / 3 + 1 :=
  ⟨by rw [ysS_congr (show (b + 3) % 3 = b % 3 by omega)], by rw [yrS_congr (show (b + 3) % 3 = b % 3 by omega)],
    by rw [lsS_congr (show (b + 3) % 3 = b % 3 by omega)], by omega⟩

variable {sp sp' : Space} {sh' : Shape} {e' : EltTy}

/-- The wait for block `b`'s row send to have left. -/
theorem wait_xs (c : Dev nD) (b : ℕ) (hb : b < 16) {sem : DmaSem sig} (hs : SemLoc.dma sem = xsS b)
    {src : Memref sig .tc sp' sh' e'} {dst : Memref sig .tc sp S256x2048 .bf16} {hsrc : src.view.WordExact} {hdst : dst.view.WordExact}
    (O : CellTallies nD τ sig ℕ) (hm : (Levs : sProp 𝕄) ⊢ MayWait (c : Thread nD τ) (xsS b) 0 O) :
    iprop(Ctx m ∗ kX c b ∗ Owes c O ∗ atPos ER (cellAt c (xsS b)) (b / 4) ∅ 0)
      ⊢ iprop(((Owes c O ∗ atPos ER (cellAt c (xsS (b + 4))) ((b + 4) / 4) ∅ 0 ∗ reached ER (cellAt c (xsS (b + 4))) ((b + 4) / 4)) -∗ WP c (k ⟨⟩) Q)
          -∗ WP c (.op (.waitDma2 sem src dst hsrc hdst) k) Q) := by
  obtain ⟨e1, -, e3⟩ := next4 c b
  rw [e1, e3]
  unfold kX
  iintro ⟨#HC, Hk, HO, Hat⟩ Hw
  ihave #HI := (ctx_xs m c b) $$ HC
  iapply (wp_dwait m c (xsS b) hs 0 (b / 4) (by rw [role_xs]; exact credit_half _) (duties_xs m c hb) O hm) $$ [Hk HO Hat]
  · isplitr; · iexact HC
    isplitr; · iexact HI
    isplitl [Hk]; · rw [role_xs]; iexact Hk
    isplitl [HO] <;> iassumption
  iintro ⟨HO, Hat, Hr, -⟩
  iapply Hw
  isplitl [HO]; · iexact HO
  isplitl [Hat] <;> iassumption

/-- The wait for block `b`'s rows from the peer. -/
theorem wait_xr (c : Dev nD) (b : ℕ) (hb : b < 16) {sem : DmaSem sig} (hs : SemLoc.dma sem = xrS b)
    {src : Memref sig .tc sp' sh' e'} {dst : Memref sig .tc sp S256x2048 .bf16} {hsrc : src.view.WordExact} {hdst : dst.view.WordExact}
    (O : CellTallies nD τ sig ℕ) (hm : (Levs : sProp 𝕄) ⊢ MayWait (c : Thread nD τ) (xrS b) (lx b) O) :
    iprop(Ctx m ∗ cX c b ∗ Owes c O ∗ atPos ER (cellAt c (xrS b)) (b / 4) ∅ 0)
      ⊢ iprop(((Owes c O ∗ atPos ER (cellAt c (xrS (b + 4))) ((b + 4) / 4) ∅ 0 ∗ reached ER (cellAt c (xrS (b + 4))) ((b + 4) / 4)
            ∗ owns (c : Thread nD τ) (xM b) fullShare (XB m (xp c) b (yc c))) -∗ WP c (k ⟨⟩) Q)
          -∗ WP c (.op (.waitDma2 sem src dst hsrc hdst) k) Q) := by
  obtain ⟨-, e2, e3⟩ := next4 c b
  rw [e2, e3]
  unfold cX
  iintro ⟨#HC, Hk, HO, Hat⟩ Hw
  ihave #HI := (ctx_xr m c b) $$ HC
  iapply (wp_dwait m c (xrS b) hs (lx b) (b / 4) (by rw [role_xr]; exact credit_half _) (duties_xr m c hb) O hm) $$ [Hk HO Hat]
  · isplitr; · iexact HC
    isplitr; · iexact HI
    isplitl [Hk]; · rw [role_xr]; iexact Hk
    isplitl [HO] <;> iassumption
  rw [pay_xr]
  iintro ⟨HO, Hat, Hr, Hp⟩
  iapply Hw
  isplitl [HO]; · iexact HO
  isplitl [Hat]; · iexact Hat
  isplitl [Hr] <;> iassumption

/-- The wait for block `b`'s forward to have left: the rest of the row slot's share back. -/
theorem wait_ys (c : Dev nD) (b : ℕ) (hb : b < 16) {sem : DmaSem sig} (hs : SemLoc.dma sem = ysS b)
    {src : Memref sig .tc sp' sh' e'} {dst : Memref sig .tc sp S256x2048 .bf16} {hsrc : src.view.WordExact} {hdst : dst.view.WordExact}
    (O : CellTallies nD τ sig ℕ) (hm : (Levs : sProp 𝕄) ⊢ MayWait (c : Thread nD τ) (ysS b) 0 O) :
    iprop(Ctx m ∗ kY c b ∗ Owes c O ∗ atPos ER (cellAt c (ysS b)) (b / 3) ∅ 0)
      ⊢ iprop(((Owes c O ∗ atPos ER (cellAt c (ysS (b + 3))) ((b + 3) / 3) ∅ 0 ∗ reached ER (cellAt c (ysS (b + 3))) ((b + 3) / 3)
            ∗ owns (c : Thread nD τ) (xM b) (fullShare : PosShare TreeShare).right (XB m (xp c) b (yc c))) -∗ WP c (k ⟨⟩) Q)
          -∗ WP c (.op (.waitDma2 sem src dst hsrc hdst) k) Q) := by
  obtain ⟨e1, -, -, e3⟩ := next3 c b
  rw [e1, e3]
  unfold kY
  iintro ⟨#HC, Hk, HO, Hat⟩ Hw
  ihave #HI := (ctx_ys m c b) $$ HC
  iapply (wp_dwait m c (ysS b) hs 0 (b / 3) (by rw [role_ys]; exact credit_half _) (duties_ys m c hb) O hm) $$ [Hk HO Hat]
  · isplitr; · iexact HC
    isplitr; · iexact HI
    isplitl [Hk]; · rw [role_ys]; iexact Hk
    isplitl [HO] <;> iassumption
  rw [pay_ys]
  iintro ⟨HO, Hat, Hr, Hp⟩
  iapply Hw
  isplitl [HO]; · iexact HO
  isplitl [Hat]; · iexact Hat
  isplitl [Hr] <;> iassumption

/-- The wait for block `b`'s forwarded rows. -/
theorem wait_yr (c : Dev nD) (b : ℕ) (hb : b < 16) {sem : DmaSem sig} (hs : SemLoc.dma sem = yrS b)
    {src : Memref sig .tc sp' sh' e'} {dst : Memref sig .tc sp S256x2048 .bf16} {hsrc : src.view.WordExact} {hdst : dst.view.WordExact}
    (O : CellTallies nD τ sig ℕ) (hm : (Levs : sProp 𝕄) ⊢ MayWait (c : Thread nD τ) (yrS b) (ly b) O) :
    iprop(Ctx m ∗ cY c b ∗ Owes c O ∗ atPos ER (cellAt c (yrS b)) (b / 3) ∅ 0)
      ⊢ iprop(((Owes c O ∗ atPos ER (cellAt c (yrS (b + 3))) ((b + 3) / 3) ∅ 0 ∗ reached ER (cellAt c (yrS (b + 3))) ((b + 3) / 3)
            ∗ owns (c : Thread nD τ) (yM b) fullShare (XB m (xp (yp c)) b (1 - yc c))) -∗ WP c (k ⟨⟩) Q)
          -∗ WP c (.op (.waitDma2 sem src dst hsrc hdst) k) Q) := by
  obtain ⟨-, e2, -, e3⟩ := next3 c b
  rw [e2, e3]
  unfold cY
  iintro ⟨#HC, Hk, HO, Hat⟩ Hw
  ihave #HI := (ctx_yr m c b) $$ HC
  iapply (wp_dwait m c (yrS b) hs (ly b) (b / 3) (by rw [role_yr]; exact credit_half _) (duties_yr m c hb) O hm) $$ [Hk HO Hat]
  · isplitr; · iexact HC
    isplitr; · iexact HI
    isplitl [Hk]; · rw [role_yr]; iexact Hk
    isplitl [HO] <;> iassumption
  rw [pay_yr]
  iintro ⟨HO, Hat, Hr, Hp⟩
  iapply Hw
  isplitl [HO]; · iexact HO
  isplitl [Hat]; · iexact Hat
  isplitl [Hr] <;> iassumption

/-- The wait for block `b`'s copy. -/
theorem wait_ls (c : Dev nD) (b : ℕ) (hb : b < 16) {sem : DmaSem sig} (hs : SemLoc.dma sem = lsS b)
    {src : Memref sig .tc sp' sh' e'} {dst : Memref sig .tc sp S512x2048 .bf16} {hsrc : src.view.WordExact} {hdst : dst.view.WordExact}
    (O : CellTallies nD τ sig ℕ) (hm : (Levs : sProp 𝕄) ⊢ MayWait (c : Thread nD τ) (lsS b) 0 O) :
    iprop(Ctx m ∗ kL c b ∗ Owes c O ∗ atPos ER (cellAt c (lsS b)) (b / 3) ∅ 0)
      ⊢ iprop(((Owes c O ∗ pL c (b + 3) ∗ owns (c : Thread nD τ) (lM b) fullShare (LB m c b)) -∗ WP c (k ⟨⟩) Q)
          -∗ WP c (.op (.waitDma2 sem src dst hsrc hdst) k) Q) := by
  obtain ⟨-, -, e2, e3⟩ := next3 c b
  unfold kL pL
  rw [e2, e3]
  iintro ⟨#HC, Hk, HO, Hat⟩ Hw
  ihave #HI := (ctx_ls m c b) $$ HC
  iapply (wp_dwait m c (lsS b) hs 0 (b / 3) (by rw [role_ls]; exact credit_block _) (duties_ls m c hb) O hm) $$ [Hk HO Hat]
  · isplitr; · iexact HC
    isplitr; · iexact HI
    isplitl [Hk]; · rw [role_ls]; iexact Hk
    isplitl [HO] <;> iassumption
  rw [pay_ls]
  iintro ⟨HO, Hat, Hr, Hp⟩
  iapply Hw
  isplitl [HO]; · iexact HO
  isplitr [Hp]
  · isplitl [Hat] <;> iassumption
  iexact Hp

/-- Block `b` of the device's own operand copied into its slot. -/
theorem copy_l (c : Dev nD) (b : ℕ) (hb : b < 16) {s : DmaSem sig} (hs : SemLoc.dma s = lsS b)
    {src : Memref sig .tc .hbm S512x2048 .bf16} (hsrcE : src = blkM b) {dst : Memref sig .tc .vmem S512x2048 .bf16} (hdstE : dst = lM b)
    {hsrc : src.view.WordExact} {hdst : dst.view.WordExact}
    {hsem : DmaTarget.Typed (nD := nD) .hbm (.dma s) (DmaTarget.here (p := (c : Thread nD τ).2) dst)} :
    iprop(Ctx m ∗ aL c b ∗ FrL c b ∗ reached ER (cellAt c (lsS b)) (b / 3) ∗ Arg m c)
      ⊢ iprop(((kL c b ∗ Arg m c) -∗ WP c (k ⟨⟩) Q) -∗ WP c (.op (.enqueueDma src (.here dst) (.dma s) hsrc hdst hsem) k) Q) := by
  unfold aL kL Arg
  iintro ⟨#HC, Ht, Hf, #Hr, %q, Ha⟩ Hk
  ihave #HI := (ctx_ls m c b) $$ HC
  iapply (wp_lcopy m c b hb hs hsrcE hdstE q) $$ [Ht Hf Ha]
  · isplitr; · iexact HI
    isplitl [Ha]; · iexact Ha
    isplitl [Hf]; · iexact Hf
    isplitl [Ht]; · iexact Ht
    iexact Hr
  iintro ⟨Hc, Ha⟩
  iapply Hk
  isplitl [Hc]; · iexact Hc
  iexists _; iexact Ha

end Cert.KIProof

end
-- ==== Proof.Front.lean ====
/- The first parts of a step. -/
module

public import proofs.«01_k».proof.Proof.Moves

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable {α : Type}

section

variable (c : Dev nD) (i : grid0.Coords) (a2 : Memref sig .tc .vmem S512x2048 .bf16) (h2 : a2.IsWhole) (a3 : Memref sig .tc .vmem S2048 .bf16) (h3 : a3.IsWhole)
  (a4 : Memref sig .tc .vmem S512x2048 .bf16) (h4 : a4.IsWhole)

/-- The grid has eighteen steps. -/
theorem step_lt : (i 0).val < 18 := (i 0).isLt

/-- Halves of a block name rows as the printed offsets spell them. -/
theorem rows_off (b : ℕ) (hb : b < 16) : (![0, 512 * b + 256 * ((c.val / 4) % 2), 0] : Fin 3 → ℕ) = ![0, 512 * (b % 16) + 256 * (yc c % 2), 0] := by
  rw [Nat.mod_eq_of_lt hb, Nat.mod_eq_of_lt (yc_lt c)]; rfl
theorem blk_off (b : ℕ) (hb : b < 16) : (![0, 512 * b, 0] : Fin 3 → ℕ) = ![0, 512 * (b % 16), 0] := by
  rw [Nat.mod_eq_of_lt hb]

theorem pX_reached {a e b : ℕ} (h : a ≤ b ∧ b < e) :
    Blk (F := F) (pX c) a e ⊢ iprop(reached ER (cellAt c (xsS b)) (b / 4) ∗ reached ER (cellAt c (xrS b)) (b / 4)) := by
  refine (blk_get (pX c) h).trans ?_
  unfold pX; iintro ⟨⟨-, H⟩, -, H'⟩
  isplitl [H] <;> iassumption
theorem pY_reached {a e b : ℕ} (h : a ≤ b ∧ b < e) :
    Blk (F := F) (pY c) a e ⊢ iprop(reached ER (cellAt c (ysS b)) (b / 3) ∗ reached ER (cellAt c (yrS b)) (b / 3)) := by
  refine (blk_get (pY c) h).trans ?_
  unfold pY; iintro ⟨⟨-, H⟩, -, H'⟩
  isplitl [H] <;> iassumption
theorem pL_reached {a e b : ℕ} (h : a ≤ b ∧ b < e) : Blk (F := F) (pL c) a e ⊢ reached ER (cellAt c (lsS b)) (b / 3) := by
  refine (blk_get (pL c) h).trans ?_
  unfold pL; iintro ⟨-, H⟩
  iexact H

/-! ## The credits -/

/-- A step's row credit, awaited when the next block's slot has been used before. -/
theorem credit_x (P : Prop) [Decidable P] (t : ℕ) (hP : P ↔ 3 ≤ t ∧ t ≤ 14) (ht : t < 18) (a b e f : ℕ)
    (h : 10 * t + 13 ≤ 10 * a + 17 ∧ 10 * t + 13 ≤ 10 * b + 28 ∧ 10 * t + 13 ≤ 10 * e ∧ 10 * t + 13 ≤ 10 * f + 16) (k : Prog (TpuEff nD τ sig (Elt F) Λ₀ .tc) α) (Q : α → sProp 𝕄) :
    iprop(Ctx m ∗ (FX (xp c) (min 16 (max 4 (t + 1))) ∗ QX m c (min (t - 3) 12) ∗ Blk (cC c) (max 4 (t + 1)) 16) ∗ Owes c (OO c a b e f))
      ⊢ iprop((((FX (xp c) (min 16 (max 4 (t + 2))) ∗ QX m c (min (t - 2) 12) ∗ Blk (cC c) (max 4 (t + 2)) 16) ∗ Owes c (OO c a b e f)) -∗ WP c k Q)
        -∗ WP c (if _ : P then (do semWaitWord cc0_scratch8.sem 1#32; k) else k) Q) := by
  by_cases hp : P
  · have hq := hP.mp hp
    rw [dif_pos hp]
    simp only [semWaitWord, Prog.lift, Prog.bind_op, Prog.bind_ret]
    have e1 : max 4 (t + 1) = t + 1 := by omega
    have e2 : min (t - 3) 12 = t - 3 := by omega
    have e3 : min 16 (max 4 (t + 2)) = (t - 3) + 5 := by omega
    have e4 : max 4 (t + 2) = t + 1 + 1 := by omega
    have e5 : min (t - 2) 12 = t - 3 + 1 := by omega
    rw [e1, e2, e3, e4, e5]
    iintro ⟨#HC, ⟨-, HQ, HCC⟩, HO⟩ Hk
    ihave HCC := (blk_take (cC c) (show t + 1 < 16 by omega)) $$ HCC
    icases HCC with ⟨Hc, HCC⟩
    iapply (wait_xc m c xc_sem (t + 1) (t - 3) (OO c a b e f)
      (may c xcS (lxc (t + 1)) a b e f (by unfold lxc; omega) (by unfold lxc; omega) (by unfold lxc; omega) (by unfold lxc; omega) (by unfold lxc; omega))) $$ [HQ Hc HO]
    · isplitr; · iexact HC
      isplitl [HQ]; · iexact HQ
      isplitl [Hc] <;> iassumption
    iintro ⟨HQ, HF, HO⟩
    iapply Hk
    isplitl [HQ HF HCC]
    · isplitl [HF]; · iexact HF
      isplitl [HQ] <;> iassumption
    iexact HO
  · have hq : ¬ (3 ≤ t ∧ t ≤ 14) := fun hh => hp (hP.mpr hh)
    rw [dif_neg hp]
    have e1 : min (t - 2) 12 = min (t - 3) 12 := by omega
    have e2 : min 16 (max 4 (t + 2)) = min 16 (max 4 (t + 1)) := by omega
    rw [e1, e2]
    iintro ⟨#HC, ⟨HF, HQ, HCC⟩, HO⟩ Hk
    ihave HCC := (blk_re (cC c) (max 4 (t + 1)) 16 (max 4 (t + 2)) 16 (by omega)) $$ HCC
    iapply Hk
    isplitl [HQ HF HCC]
    · isplitl [HF]; · iexact HF
      isplitl [HQ] <;> iassumption
    iexact HO

/-- A step's forwarding credit, awaited when the previous block's forwarding slot has been used before. -/
theorem credit_y (P : Prop) [Decidable P] (t : ℕ) (hP : P ↔ 4 ≤ t ∧ t ≤ 16) (ht : t < 18) (a b e f : ℕ)
    (h : 10 * t + 13 ≤ 10 * a + 17 ∧ 10 * t + 13 ≤ 10 * b + 28 ∧ 10 * t + 14 ≤ 10 * e ∧ 10 * t + 13 ≤ 10 * f + 16) (k : Prog (TpuEff nD τ sig (Elt F) Λ₀ .tc) α) (Q : α → sProp 𝕄) :
    iprop(Ctx m ∗ (FY (yp c) (min 16 (max 3 (t - 1))) ∗ QY m c (min (t - 4) 13) ∗ Blk (cD c) (max 3 (t - 1)) 16) ∗ Owes c (OO c a b e f))
      ⊢ iprop((((FY (yp c) (min 16 (max 3 t)) ∗ QY m c (min (t - 3) 13) ∗ Blk (cD c) (max 3 t) 16) ∗ Owes c (OO c a b e f)) -∗ WP c k Q)
        -∗ WP c (if _ : P then (do semWaitWord cc0_scratch9.sem 1#32; k) else k) Q) := by
  by_cases hp : P
  · have hq := hP.mp hp
    rw [dif_pos hp]
    simp only [semWaitWord, Prog.lift, Prog.bind_op, Prog.bind_ret]
    have e1 : max 3 (t - 1) = t - 1 := by omega
    have e2 : min (t - 4) 13 = t - 4 := by omega
    have e3 : min 16 (max 3 t) = (t - 4) + 4 := by omega
    have e4 : max 3 t = t - 1 + 1 := by omega
    have e5 : min (t - 3) 13 = t - 4 + 1 := by omega
    rw [e1, e2, e3, e4, e5]
    iintro ⟨#HC, ⟨-, HQ, HCC⟩, HO⟩ Hk
    ihave HCC := (blk_take (cD c) (show t - 1 < 16 by omega)) $$ HCC
    icases HCC with ⟨Hc, HCC⟩
    iapply (wait_yc m c yc_sem (t - 1) (t - 4) (OO c a b e f)
      (may c ycS (lyc (t - 1)) a b e f (by unfold lyc; omega) (by unfold lyc; omega) (by unfold lyc; omega) (by unfold lyc; omega) (by unfold lyc; omega))) $$ [HQ Hc HO]
    · isplitr; · iexact HC
      isplitl [HQ]; · iexact HQ
      isplitl [Hc] <;> iassumption
    iintro ⟨HQ, HF, HO⟩
    iapply Hk
    isplitl [HQ HF HCC]
    · isplitl [HF]; · iexact HF
      isplitl [HQ] <;> iassumption
    iexact HO
  · have hq : ¬ (4 ≤ t ∧ t ≤ 16) := fun hh => hp (hP.mpr hh)
    rw [dif_neg hp]
    have e1 : min (t - 3) 13 = min (t - 4) 13 := by omega
    have e2 : min 16 (max 3 t) = min 16 (max 3 (t - 1)) := by omega
    rw [e1, e2]
    iintro ⟨#HC, ⟨HF, HQ, HCC⟩, HO⟩ Hk
    ihave HCC := (blk_re (cD c) (max 3 (t - 1)) 16 (max 3 t) 16 (by omega)) $$ HCC
    iapply Hk
    isplitl [HQ HF HCC]
    · isplitl [HF]; · iexact HF
      isplitl [HQ] <;> iassumption
    iexact HO

/-! ## The parts -/

/-- The next block's row exchange: its credit awaited when its slot has been used before, then sent. -/
theorem part4 (v5 v8 v9 v11 v21 : BitVec 32) (Q : PUnit → sProp 𝕄) :
    iprop(Ctx m ∗ SA m c (i 0).val ∗ Blk (kX c) ((i 0).val - 1) (min ((i 0).val + 1) 16)
        ∗ Blk (pX c) (min ((i 0).val - 1) 16) (min ((i 0).val - 1) 16 + 4) ∗ Arg m c ∗ Owes c (OS c (i 0).val))
      ⊢ iprop(((SA m c ((i 0).val + 1) ∗ Blk (kX c) ((i 0).val - 1) (min ((i 0).val + 2) 16)
            ∗ Blk (pX c) (min ((i 0).val - 1) 16) (min ((i 0).val - 1) 16 + 4) ∗ Arg m c
            ∗ Owes c (OO c ((i 0).val + 2) ((i 0).val - 1) (max 4 ((i 0).val + 2)) (max 3 ((i 0).val + 1)))) -∗ Q ⟨⟩)
          -∗ WP c (k0_part4 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9
            (BitVec.ofNat 32 (i 0).val) c v5 v8 v9 v11 (Scalar.addi (BitVec.ofNat 32 (i 0).val) 1#32) v21 4#32) Q) := by
  have ht := step_lt i
  simp only [k0_part4_eq_skeleton]; unfold k0_part4_skel
  have e4 := cond4_iff i
  unfold SA
  dsimp only
  have u3 : (i 0).val + 1 - 3 = (i 0).val - 2 := by omega
  rw [u3]
  iintro ⟨#HC, ⟨HX, HF, HQ, HCC⟩, HkX, HpX, Ha, HO⟩ Hk
  iapply (credit_x m c _ (i 0).val (cond3_iff i) ht ((i 0).val + 1) ((i 0).val - 1) (max 4 ((i 0).val + 2)) (max 3 ((i 0).val + 1)) (by omega)) $$ [HF HQ HCC HO]
  · isplitr; · iexact HC
    isplitr [HO]
    · isplitl [HF]; · iexact HF
      isplitl [HQ] <;> iassumption
    iexact HO
  iintro ⟨⟨#HF, HQ, HCC⟩, HO⟩
  by_cases h14 : (i 0).val ≤ 14
  · have q4 := e4.mpr h14
    rw [dif_pos q4]
    simp only [Prog.lift, Prog.bind_op, Prog.bind_ret, Prog.pure_eq_ret]
    ihave HX := (blk_take (aX c) (show (i 0).val + 1 < 16 by omega)) $$ HX
    icases HX with ⟨Hx, HX⟩
    ihave #Hp := (pX_reached (F := F) c (show min ((i 0).val - 1) 16 ≤ (i 0).val + 1 ∧ (i 0).val + 1 < min ((i 0).val - 1) 16 + 4 by omega)) $$ HpX
    icases Hp with ⟨#Hr, -⟩
    iapply (put_x m c ⟨k0_dev4 c, k0_dev4_lt i c q4⟩ (dev4_eq c _) ((i 0).val + 1) (by omega)
      (xs_sem ((i 0).val + 1) (off2_at i h14) _) (xr_sem ((i 0).val + 1) (off2_at i h14) _)
      (rowsM_eq ((i 0).val + 1) (yc c) ((off4_at i c h14).trans (rows_off c _ (by omega))) _)
      (xM_eq ((i 0).val + 1) (off3_at i h14) _) (min 16 (max 4 ((i 0).val + 2))) (by omega)
      (OO c ((i 0).val + 1) ((i 0).val - 1) (max 4 ((i 0).val + 2)) (max 3 ((i 0).val + 1)))
      (OO c ((i 0).val + 2) ((i 0).val - 1) (max 4 ((i 0).val + 2)) (max 3 ((i 0).val + 1)))
      (OO_x c _ _ _ _ (by omega))) $$ [Hx Ha HO]
    · isplitr; · iexact HC
      isplitl [Hx]; · iexact Hx
      isplitr; · iexact HF
      isplitr; · iexact Hr
      isplitl [Ha] <;> iassumption
    iintro ⟨Hkx, Ha, HO⟩
    simp only [wp_ret]; imodintro
    iapply Hk
    have e1 : min ((i 0).val + 1) 16 = (i 0).val + 1 := by omega
    have e2 : min ((i 0).val + 2) 16 = (i 0).val + 1 + 1 := by omega
    rw [e1, e2]
    ihave HkX := (blk_put (kX c) (show (i 0).val - 1 ≤ (i 0).val + 1 by omega)) $$ [Hkx HkX]
    · isplitl [Hkx] <;> iassumption
    isplitl [HX HQ HCC]
    · isplitl [HX]; · iexact HX
      isplitr; · iexact HF
      isplitl [HQ] <;> iassumption
    isplitl [HkX]; · iexact HkX
    isplitl [HpX]; · iexact HpX
    isplitl [Ha] <;> iassumption
  · have q4 : ¬ k0_cond4 i = 1#1 := fun h => h14 (e4.mp h)
    rw [dif_neg q4]
    simp only [Prog.bind_ret, Prog.pure_eq_ret, wp_ret]
    imodintro
    iapply Hk
    have e1 : min ((i 0).val + 2) 16 = min ((i 0).val + 1) 16 := by omega
    have e2 : OO c ((i 0).val + 1) ((i 0).val - 1) (max 4 ((i 0).val + 2)) (max 3 ((i 0).val + 1))
        = OO c ((i 0).val + 2) ((i 0).val - 1) (max 4 ((i 0).val + 2)) (max 3 ((i 0).val + 1)) :=
      OO_congr c (by omega) (by omega) (by omega) (by omega)
    rw [e1, e2]
    ihave HX := (blk_re (aX c) ((i 0).val + 1) 16 ((i 0).val + 1 + 1) 16 (by omega)) $$ HX
    isplitl [HX HQ HCC]
    · isplitl [HX]; · iexact HX
      isplitr; · iexact HF
      isplitl [HQ] <;> iassumption
    isplitl [HkX]; · iexact HkX
    isplitl [HpX]; · iexact HpX
    isplitl [Ha] <;> iassumption

/-- A step's copy of its own block, and its forwarding credit. -/
theorem part5 (v11 : BitVec 32) (a b e f : ℕ)
    (h : 10 * (i 0).val + 13 ≤ 10 * a + 17 ∧ 10 * (i 0).val + 13 ≤ 10 * b + 28 ∧ 10 * (i 0).val + 14 ≤ 10 * e ∧ 10 * (i 0).val + 13 ≤ 10 * f + 16)
    (Q : BitVec 1 → sProp 𝕄) :
    iprop(Ctx m ∗ SB m c (i 0).val ∗ Blk (kL c) ((i 0).val - 2) (min (i 0).val 16) ∗ Blk (FrL c) (min (i 0).val 16) (max 3 ((i 0).val + 1))
        ∗ Blk (pL c) ((i 0).val - 2) ((i 0).val - 2 + 3) ∗ Arg m c ∗ Owes c (OO c a b e f))
      ⊢ iprop((∀ v, (SB m c ((i 0).val + 1) ∗ Blk (kL c) ((i 0).val - 2) (min ((i 0).val + 1) 16) ∗ Blk (FrL c) (min ((i 0).val + 1) 16) (max 3 ((i 0).val + 1))
            ∗ Blk (pL c) ((i 0).val - 2) ((i 0).val - 2 + 3) ∗ Arg m c ∗ Owes c (OO c a b e f)) -∗ Q v)
          -∗ WP c (k0_part5 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 (BitVec.ofNat 32 (i 0).val) v11) Q) := by
  have ht := step_lt i
  simp only [k0_part5_eq_skeleton]; unfold k0_part5_skel
  have e5 := cond5_iff i
  unfold SB
  have key : iprop(Ctx m ∗ (FY (yp c) (min 16 (max 3 ((i 0).val - 1))) ∗ QY m c (min ((i 0).val - 4) 13) ∗ Blk (cD c) (max 3 ((i 0).val - 1)) 16)
        ∗ Owes c (OO c a b e f))
      ⊢ iprop((∀ v, ((FY (yp c) (min 16 (max 3 (i 0).val)) ∗ QY m c (min ((i 0).val - 3) 13) ∗ Blk (cD c) (max 3 (i 0).val) 16) ∗ Owes c (OO c a b e f)) -∗ Q v) -∗ WP c
      (do
        let v93 : BitVec 32 := Scalar.subi (BitVec.ofNat 32 (i 0).val) 1#32
        let v94 : BitVec 1 := Scalar.cmpi .sge v93 3#32
        let v95 : BitVec 1 := Scalar.cmpi .sle (BitVec.ofNat 32 (i 0).val) 16#32
        let v96 : BitVec 1 := Scalar.andi v94 v95
        let v97 : BitVec 32 := Scalar.extui v96
        let v98 : BitVec 1 := Scalar.cmpi .ne v97 0#32
        if k0_h6 : v98 = 1#1 then do
          semWaitWord cc0_scratch9.sem 1#32
          pure ⟨⟩
        else do
          pure ⟨⟩
        let v99 : BitVec 1 := Scalar.cmpi .sge (BitVec.ofNat 32 (i 0).val) 1#32
        let v100 : BitVec 1 := Scalar.cmpi .sle (BitVec.ofNat 32 (i 0).val) 16#32
        let v101 : BitVec 1 := Scalar.andi v99 v100
        pure v101) Q) := by
    dsimp only
    iintro ⟨#HC, H, HO⟩ Hk
    iapply (credit_y m c _ (i 0).val (cond6_iff i) ht a b e f h) $$ [H HO]
    · isplitr; · iexact HC
      isplitl [H] <;> iassumption
    iintro ⟨H, HO⟩
    simp only [Prog.pure_eq_ret, wp_ret]
    imodintro
    iapply Hk
    isplitl [H] <;> iassumption
  have u1 : (i 0).val + 1 - 1 = (i 0).val := by omega
  have u4 : (i 0).val + 1 - 4 = (i 0).val - 3 := by omega
  rw [u1, u4]
  iintro ⟨#HC, ⟨HL, HF, HQ, HD⟩, HkL, Hfr, HpL, Ha, HO⟩ Hk
  by_cases h15 : (i 0).val ≤ 15
  · have q5 := e5.mpr h15
    rw [dif_pos q5]
    simp only [Prog.lift, Prog.bind_op, Prog.bind_ret, Prog.pure_eq_ret] at key ⊢
    have e1 : min (i 0).val 16 = (i 0).val := by omega
    have e2 : min ((i 0).val + 1) 16 = (i 0).val + 1 := by omega
    rw [e1, e2]
    ihave HL := (blk_take (aL c) (show (i 0).val < 16 by omega)) $$ HL
    icases HL with ⟨Hl, HL⟩
    ihave Hfr := (blk_take (FrL c) (show (i 0).val < max 3 ((i 0).val + 1) by omega)) $$ Hfr
    icases Hfr with ⟨Hf, Hfr⟩
    ihave #Hr := (pL_reached (F := F) c (show (i 0).val - 2 ≤ (i 0).val ∧ (i 0).val < (i 0).val - 2 + 3 by omega)) $$ HpL
    iapply (copy_l m c (i 0).val (by omega) (ls_sem (i 0).val (off5_at i h15) _)
      (blkM_eq (i 0).val ((off7_at i h15).trans (blk_off _ (by omega))) _) (lM_eq (i 0).val (off6_at i h15) _)) $$ [Hl Hf Ha]
    · isplitr; · iexact HC
      isplitl [Hl]; · iexact Hl
      isplitl [Hf]; · iexact Hf
      isplitr; · iexact Hr
      iexact Ha
    iintro ⟨Hk1, Ha⟩
    ihave HkL := (blk_put (kL c) (show (i 0).val - 2 ≤ (i 0).val by omega)) $$ [Hk1 HkL]
    · isplitl [Hk1] <;> iassumption
    iapply key $$ [HF HQ HD HO]
    · isplitr; · iexact HC
      isplitr [HO]
      · isplitl [HF]; · iexact HF
        isplitl [HQ] <;> iassumption
      iexact HO
    iintro %v ⟨⟨HF, HQ, HD⟩, HO⟩
    iapply Hk
    isplitl [HL HF HQ HD]
    · isplitl [HL]; · iexact HL
      isplitl [HF]; · iexact HF
      isplitl [HQ] <;> iassumption
    isplitl [HkL]; · iexact HkL
    isplitl [Hfr]; · iexact Hfr
    isplitl [HpL]; · iexact HpL
    isplitl [Ha] <;> iassumption
  · have q5 : ¬ k0_cond5 i = 1#1 := fun h => h15 (e5.mp h)
    rw [dif_neg q5]
    simp only [Prog.lift, Prog.bind_op, Prog.bind_ret, Prog.pure_eq_ret] at key ⊢
    have e1 : min (i 0).val 16 = min ((i 0).val + 1) 16 := by omega
    rw [e1]
    ihave HL := (blk_re (aL c) (i 0).val 16 ((i 0).val + 1) 16 (by omega)) $$ HL
    iapply key $$ [HF HQ HD HO]
    · isplitr; · iexact HC
      isplitr [HO]
      · isplitl [HF]; · iexact HF
        isplitl [HQ] <;> iassumption
      iexact HO
    iintro %v ⟨⟨HF, HQ, HD⟩, HO⟩
    iapply Hk
    isplitl [HL HF HQ HD]
    · isplitl [HL]; · iexact HL
      isplitl [HF]; · iexact HF
      isplitl [HQ] <;> iassumption
    isplitl [HkL]; · iexact HkL
    isplitl [Hfr]; · iexact Hfr
    isplitl [HpL]; · iexact HpL
    isplitl [Ha] <;> iassumption

/-- The exchanged half of the previous block awaited, both ways, and forwarded. -/
theorem part6 (v2 v5 v8 v9 v10 : BitVec 32) (v101 : BitVec 1)
    (Q : (Σ' (_ : BitVec 32) (_ : BitVec 32) (_ : BitVec 32) (_ : BitVec 32) (_ : BitVec 1) (_ : BitVec 1), BitVec 32) → sProp 𝕄) :
    iprop(Ctx m ∗ SC c (i 0).val ∗ Blk (kX c) ((i 0).val - 1) (min ((i 0).val + 2) 16) ∗ Blk (kY c) ((i 0).val - 2) (min ((i 0).val - 1) 16)
        ∗ Blk (hX m c) ((i 0).val - 2) (min ((i 0).val - 1) 16) ∗ Blk (pY c) ((i 0).val - 2) ((i 0).val - 2 + 3)
        ∗ FY (yp c) (min 16 (max 3 (i 0).val))
        ∗ Owes c (OO c ((i 0).val + 2) ((i 0).val - 1) (max 4 ((i 0).val + 2)) (max 3 ((i 0).val + 1))))
      ⊢ iprop((∀ v, (SC c ((i 0).val + 1) ∗ Blk (kX c) (i 0).val (min ((i 0).val + 2) 16) ∗ Blk (kY c) ((i 0).val - 2) (min (i 0).val 16)
            ∗ Blk (hX m c) ((i 0).val - 2) (min (i 0).val 16) ∗ Blk (pY c) ((i 0).val - 2) ((i 0).val - 2 + 3)
            ∗ Owes c (OO c ((i 0).val + 2) (i 0).val (max 4 ((i 0).val + 2)) (max 3 ((i 0).val + 1)))) -∗ Q v)
          -∗ WP c (k0_part6 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 (BitVec.ofNat 32 (i 0).val) c v2 v5 v8 v9 v10 v101) Q) := by
  have ht := step_lt i
  simp only [k0_part6_eq_skeleton]; unfold k0_part6_skel
  have e7 := cond7_iff i
  have u1 : (i 0).val + 1 - 1 = (i 0).val := by omega
  unfold SC
  rw [u1]
  iintro ⟨#HC, ⟨HcX, HpX, HaY⟩, HkX, HkY, HhX, HpY, #HF, HO⟩ Hk
  by_cases h16 : 1 ≤ (i 0).val ∧ (i 0).val ≤ 16
  · have q7 := e7.mpr h16
    obtain ⟨g1, g16⟩ := h16
    obtain ⟨p, hp⟩ : ∃ p, (i 0).val = p + 1 := ⟨(i 0).val - 1, by omega⟩
    have hp16 : p < 16 := by omega
    rw [dif_pos q7]
    simp only [Prog.lift, Prog.bind_op, Prog.bind_ret, Prog.pure_eq_ret]
    have o8 := off8_at i g1 g16
    have o10 := off10_at i g1 g16
    have o11 := off11_at i g1 g16
    have o12 := off12_at i g1 g16
    have a1 : (i 0).val - 1 = p := by omega
    have a2 : (i 0).val - 2 = p - 1 := by omega
    have a3 : min p 16 = p := by omega
    have a4 : min (i 0).val 16 = p + 1 := by omega
    have a5 : max 3 (i 0).val = max 3 (p + 1) := by omega
    rw [a1] at o8 o10 o11 o12
    rw [a1, a2, a3, a4, a5]
    ihave HcX := (blk_take (cX c) hp16) $$ HcX
    icases HcX with ⟨Hcx, HcX⟩
    ihave HpX := (blk_take (pX c) (show p < p + 4 by omega)) $$ HpX
    icases HpX with ⟨Hpx, HpX⟩
    ihave HaY := (blk_take (aY c) hp16) $$ HaY
    icases HaY with ⟨Hay, HaY⟩
    ihave HkX := (blk_take (kX c) (show p < min ((i 0).val + 2) 16 by omega)) $$ HkX
    icases HkX with ⟨Hkx, HkX⟩
    ihave #Hr := (pY_reached (F := F) c (show p - 1 ≤ p ∧ p < p - 1 + 3 by omega)) $$ HpY
    icases Hr with ⟨#Hr, -⟩
    unfold pX
    icases Hpx with ⟨⟨Hx1, -⟩, Hx2, -⟩
    iapply (wait_xs m c p hp16 (xs_sem p o8 _) (OO c ((i 0).val + 2) p (max 4 ((i 0).val + 2)) (max 3 ((i 0).val + 1)))
      (may c (xsS p) 0 ((i 0).val + 2) p (max 4 ((i 0).val + 2)) (max 3 ((i 0).val + 1)) (by omega) (by omega) (by omega) (by omega) (by omega)))
      $$ [Hkx HO Hx1]
    · isplitr; · iexact HC
      isplitl [Hkx]; · iexact Hkx
      isplitl [HO] <;> iassumption
    iintro ⟨HO, Hx1, Hx1'⟩
    iapply (wait_xr m c p hp16 (xr_sem p o8 _) (OO c ((i 0).val + 2) p (max 4 ((i 0).val + 2)) (max 3 ((i 0).val + 1)))
      (may c (xrS p) (lx p) ((i 0).val + 2) p (max 4 ((i 0).val + 2)) (max 3 ((i 0).val + 1)) (by unfold lx; omega) (by unfold lx; omega)
        (by unfold lx; omega) (by unfold lx; omega) (by unfold lx; omega))) $$ [Hcx HO Hx2]
    · isplitr; · iexact HC
      isplitl [Hcx]; · iexact Hcx
      isplitl [HO] <;> iassumption
    iintro ⟨HO, Hx2, Hx2', Hx⟩
    ihave Hx := (owns_halves (c : Thread nD τ) (xM p) fullShare (XB m (xp c) p (yc c))).mp $$ Hx
    icases Hx with ⟨Hxl, Hxr⟩
    iapply (put_y m c ⟨k0_dev5 c, k0_dev5_lt i c q7⟩ (dev5_eq c _) p hp16 (ys_sem p o11 _) (yr_sem p o11 _)
      (xM_eq p o10 _) (yM_eq p o12 _) (min 16 (max 3 (p + 1))) (by omega)
      (OO c ((i 0).val + 2) p (max 4 ((i 0).val + 2)) (max 3 ((i 0).val + 1)))
      (OO c ((i 0).val + 2) (p + 1) (max 4 ((i 0).val + 2)) (max 3 ((i 0).val + 1)))
      (OO_y c _ _ _ _ hp16)) $$ [Hay Hxr HO]
    · isplitr; · iexact HC
      isplitl [Hay]; · iexact Hay
      isplitr; · iexact HF
      isplitr; · iexact Hr
      isplitl [Hxr] <;> iassumption
    iintro ⟨Hky, HO⟩
    simp only [wp_ret]; imodintro
    iapply Hk
    have b1 : (i 0).val = p + 1 := hp
    ihave HpX := (blk_put (fun b => pX c b) (show p + 1 ≤ p + 4 by omega)) $$ [Hx1 Hx1' Hx2 Hx2' HpX]
    · isplitr [HpX]
      · unfold pX
        isplitl [Hx1 Hx1']
        · isplitl [Hx1] <;> iassumption
        isplitl [Hx2] <;> iassumption
      iexact HpX
    ihave HkY := (blk_put (kY c) (show p - 1 ≤ p by omega)) $$ [Hky HkY]
    · isplitl [Hky] <;> iassumption
    ihave HhX := (blk_put (hX m c) (show p - 1 ≤ p by omega)) $$ [Hxl HhX]
    · isplitl [Hxl]
      · unfold hX; iexact Hxl
      iexact HhX
    rw [b1]
    isplitl [HcX HpX HaY]
    · isplitl [HcX]; · iexact HcX
      isplitl [HpX]; · iexact HpX
      iexact HaY
    isplitl [HkX]; · iexact HkX
    isplitl [HkY]; · iexact HkY
    isplitl [HhX]; · iexact HhX
    isplitl [HpY]; · iexact HpY
    iexact HO
  · have q7 : ¬ k0_cond7 i = 1#1 := fun h => h16 (e7.mp h)
    rw [dif_neg q7]
    simp only [Prog.bind_ret, Prog.pure_eq_ret, wp_ret]
    imodintro
    iapply Hk
    have e2 : OO c ((i 0).val + 2) ((i 0).val - 1) (max 4 ((i 0).val + 2)) (max 3 ((i 0).val + 1))
        = OO c ((i 0).val + 2) (i 0).val (max 4 ((i 0).val + 2)) (max 3 ((i 0).val + 1)) :=
      OO_congr c (by omega) (by omega) (by omega) (by omega)
    rw [e2, show min ((i 0).val - 1) 16 = min (i 0).val 16 by omega]
    ihave HcX := (blk_re (cX c) ((i 0).val - 1) 16 (i 0).val 16 (by omega)) $$ HcX
    ihave HaY := (blk_re (aY c) ((i 0).val - 1) 16 (i 0).val 16 (by omega)) $$ HaY
    ihave HkX := (blk_re (kX c) ((i 0).val - 1) (min ((i 0).val + 2) 16) (i 0).val (min ((i 0).val + 2) 16) (by omega)) $$ HkX
    isplitl [HcX HpX HaY]
    · isplitl [HcX]; · iexact HcX
      isplitl [HpX]; · iexact HpX
      iexact HaY
    isplitl [HkX]; · iexact HkX
    isplitl [HkY]; · iexact HkY
    isplitl [HhX]; · iexact HhX
    isplitl [HpY]; · iexact HpY
    iexact HO

end

end Cert.KIProof

end
-- ==== Proof.Finish.lean ====
/- What a finished block holds, and the loads it is made from. -/
module

public import proofs.«01_k».proof.Proof.Front
public import Idealize.ShloMosaic.Lib.ValueLayout

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What the loads read -/

/-- Half `h` of a block's copy, as a load of it yields it. -/
def hv (h : ℕ) (X : Vec F S512x2048 .bf16) : Vec F S1x256x2048 .bf16 :=
  fun x => X (ValueIdx.ix2 ⟨256 * (h % 2) + (x 1).val, by have := (x 1).isLt; change (x 1).val < 256 at this; omega⟩ (x 2))
/-- Half `h` of a window's block. -/
def rv (h : ℕ) (X : Vec F S512x2048 .bf16) : Vec F S256x2048 .bf16 :=
  fun x => X (ValueIdx.ix2 ⟨256 * (h % 2) + (x 0).val, by have := (x 0).isLt; change (x 0).val < 256 at this; omega⟩ (x 1))
/-- A slot's contents, as a load of it yields them. -/
def up (X : Vec F S256x2048 .bf16) : Vec F S1x256x2048 .bf16 :=
  fun x => X (Shape.reshapeEquiv squeezes_S1x256x2048_S256x2048.numel_eq.symm x)

theorem rv_load (h : ℕ) {off : Fin 2 → ℕ} (e : off = ![256 * (h % 2), 0]) (hi : ∀ a, off a + S256x2048.size a ≤ S512x2048.size a) (X : Vec F S512x2048 .bf16) :
    (fun x => X ((Rect.unit (s := S512x2048) off S256x2048.size hi).emb x)) = rv h X := by
  subst e
  funext x
  unfold rv
  congr 1
  funext a
  fin_cases a
  · refine Fin.ext ?_
    show 256 * (h % 2) + 1 * (x 0).val = 256 * (h % 2) + (x 0).val
    omega
  · refine Fin.ext ?_
    show 0 + 1 * (x 1).val = (x 1).val
    omega

theorem gv_load (hi : ∀ a, (![0] : Fin 1 → ℕ) a + S2048.size a ≤ S2048.size a) (G : Vec F S2048 .bf16) :
    (fun x => G ((Rect.unit (s := S2048) ![0] S2048.size hi).emb x)) = G := by
  funext x
  congr 1
  funext a
  fin_cases a
  refine Fin.ext ?_
  show 0 + 1 * (x 0).val = (x 0).val
  omega

/-! ## What a finished block holds -/

/-- A finished block of device `c`: the half exchanged along the rows, and the half forwarded. -/
def dirv (c : Dev nD) (q : ℕ) (R : Vec F S512x2048 .bf16) (G : Vec F S2048 .bf16) : Vec F S256x2048 .bf16 :=
  k0_pay3 (k0_pay2 (hv (yc c) (LB m c q)) (up (XB m (xp c) q (yc c))) (rv (yc c) R)) G
def fwdv (c : Dev nD) (q : ℕ) (R : Vec F S512x2048 .bf16) (G : Vec F S2048 .bf16) : Vec F S256x2048 .bf16 :=
  k0_pay1 (k0_pay4 (hv (1 - yc c) (LB m c q))) (up (XB m (xp (yp c)) q (1 - yc c))) (rv (1 - yc c) R) G
def outv (c : Dev nD) (q : ℕ) (R : Vec F S512x2048 .bf16) (G : Vec F S2048 .bf16) : Vec F S512x2048 .bf16 :=
  fun y => if (y 0).val / 256 = yc c then dirv m c q R G (ValueIdx.ix2 ⟨(y 0).val % 256, Nat.mod_lt _ (by decide)⟩ (y 1))
    else fwdv m c q R G (ValueIdx.ix2 ⟨(y 0).val % 256, Nat.mod_lt _ (by decide)⟩ (y 1))

/-- A store of a half of a block, read at an index. -/
theorem overlay_half (h : ℕ) {off : Fin 2 → ℕ} (e : off = ![256 * (h % 2), 0]) (hi : ∀ a, off a + S256x2048.size a ≤ S512x2048.size a)
    (X : Vec F S512x2048 .bf16) (w : Vec F S256x2048 .bf16) (y : S512x2048.Idx) :
    (Rect.unit (s := S512x2048) off S256x2048.size hi).overlay X w y
      = if (y 0).val / 256 = h % 2 then w (ValueIdx.ix2 ⟨(y 0).val % 256, Nat.mod_lt _ (by decide)⟩ (y 1)) else X y := by
  subst e
  have hy0 : (y 0).val < 512 := (y 0).isLt
  by_cases hh : (y 0).val / 256 = h % 2
  · rw [if_pos hh]
    have ey : y = (Rect.unit (s := S512x2048) ![256 * (h % 2), 0] S256x2048.size hi).emb (ValueIdx.ix2 ⟨(y 0).val % 256, Nat.mod_lt _ (by decide)⟩ (y 1)) := by
      funext a
      fin_cases a
      · refine Fin.ext ?_
        show (y 0).val = 256 * (h % 2) + 1 * ((y 0).val % 256)
        omega
      · refine Fin.ext ?_
        show (y 1).val = 0 + 1 * (y 1).val
        omega
    conv_lhs => rw [ey]
    exact Rect.overlay_emb _ _ _ _
  · rw [if_neg hh]
    refine Rect.overlay_of_not_mem _ _ _ fun hm => hh ?_
    obtain ⟨x, hx⟩ := (Rect.unit (s := S512x2048) ![256 * (h % 2), 0] S256x2048.size hi).exists_idx_of_mem hm
    have hx0 : (x 0).val < 256 := (x 0).isLt
    have : (y 0).val = 256 * (h % 2) + 1 * (x 0).val := by rw [← hx]; rfl
    omega

/-- The two stores of a finished block cover it. -/
theorem overlay_both (c : Dev nD) (q : ℕ) {off off' : Fin 2 → ℕ} (e : off = ![256 * (yc c % 2), 0]) (e' : off' = ![256 * ((1 - yc c) % 2), 0])
    (hi : ∀ a, off a + S256x2048.size a ≤ S512x2048.size a) (hi' : ∀ a, off' a + S256x2048.size a ≤ S512x2048.size a)
    (O R : Vec F S512x2048 .bf16) (G : Vec F S2048 .bf16) :
    (Rect.unit (s := S512x2048) off' S256x2048.size hi').overlay ((Rect.unit (s := S512x2048) off S256x2048.size hi).overlay O (dirv m c q R G)) (fwdv m c q R G)
      = outv m c q R G := by
  funext y
  have hy0 : (y 0).val < 512 := (y 0).isLt
  have hc := yc_lt c
  rw [overlay_half _ e', overlay_half _ e]
  unfold outv
  by_cases h : (y 0).val / 256 = yc c
  · rw [if_neg (by omega), if_pos (by omega), if_pos h]
  · rw [if_pos (by omega), if_neg h]

section

variable {c : Dev nD} {α : Type} {Q : α → sProp (MT nD τ sig ℕ (Elt F) ℕ UU ℕ)}

/-- A load of half a copy slot, the slot owned. -/
theorem wp_hload (b h : ℕ) {off : Fin 3 → ℕ} (e : off = ![b % 3, 256 * (h % 2), 0]) {hi : ∀ a, off a + S1x256x2048.size a ≤ S3x512x2048.size a}
    {hl : (Memref.whole cc0_scratch2).view.LoadsAt (Rect.unit (s := S3x512x2048) off S1x256x2048.size hi).toLoadRect}
    {k : (S1x256x2048.Idx → Elt F .bf16) → Prog (TpuEff nD τ sig (Elt F) Λ₀ .tc) α} (q : PosShare TreeShare) (X : Vec F S512x2048 .bf16) :
    (owns (c : Thread nD τ) (lM b) q X : sProp 𝕄)
      ⊢ iprop((owns (c : Thread nD τ) (lM b) q X -∗ WP c (k (hv h X)) Q)
        -∗ WP c (.op (.load (Memref.whole cc0_scratch2) (Rect.unit (s := S3x512x2048) off S1x256x2048.size hi).toLoadRect hl) k) Q) := by
  subst e
  have key : ∀ x : S1x256x2048.Idx, ((Memref.whole cc0_scratch2).access (Rect.unit (s := S3x512x2048) ![b % 3, 256 * (h % 2), 0] S1x256x2048.size hi)).emb x
      = (lM b).view.emb (ValueIdx.ix2 ⟨256 * (h % 2) + (x 1).val, by have := (x 1).isLt; change (x 1).val < 256 at this; omega⟩ (x 2)) := by
    intro x
    have hx : (x 0).val = 0 := by have := (x 0).isLt; change (x 0).val < 1 at this; omega
    show (Rect.unit (s := S3x512x2048) ![b % 3, 256 * (h % 2), 0] S1x256x2048.size hi).emb x
      = (Rect.unit (s := S3x512x2048) ![b % 3, 0, 0] S1x512x2048.size (inbL b)).emb (Shape.reshapeEquiv _ (ValueIdx.ix2 _ (x 2)))
    refine Eq.trans ?_ (congrArg (Rect.unit (s := S3x512x2048) ![b % 3, 0, 0] S1x512x2048.size (inbL b)).emb
      (ValueIdx.reshapeEquiv_ix2_1ab (a := 512) (b := 2048) squeezes_S1x512x2048_S512x2048.numel_eq
        ⟨256 * (h % 2) + (x 1).val, by have := (x 1).isLt; change (x 1).val < 256 at this; omega⟩ (x 2)).symm)
    funext a
    fin_cases a
    · refine Fin.ext ?_
      show b % 3 + 1 * (x 0).val = b % 3 + 1 * 0
      omega
    · refine Fin.ext ?_
      show 256 * (h % 2) + 1 * (x 1).val = 0 + 1 * (256 * (h % 2) + (x 1).val)
      omega
    · refine Fin.ext ?_
      show 0 + 1 * (x 2).val = 0 + 1 * (x 2).val
      rfl
  iintro H Hk
  ihave H' := (show owns (c : Thread nD τ) (lM b) q X
    ⊢ iprop(∃ g, ⌜(lM b).view.read (Elt F) g = X⌝ ∗ (Memref.whole cc0_scratch2).view.loc (c : Thread nD τ) ↦[(lM b).view.set]{q} g) from .rfl) $$ H
  icases H' with ⟨%g, %hg, H⟩
  subst hg
  iapply (wp_load_rect 𝒱₀ (c : Thread nD τ) none Set.univ (m := Memref.whole cc0_scratch2)
    (r := Rect.unit (s := S3x512x2048) ![b % 3, 256 * (h % 2), 0] S1x256x2048.size hi) (S := (lM b).view.set) (by
      intro y hy
      obtain ⟨x, -, rfl⟩ := Finset.mem_map.mp hy
      rw [key x]
      exact (lM b).view.emb_mem_set _)) $$ H
  iintro H
  ihave H := (owns_intro (c : Thread nD τ) (lM b) q g) $$ H
  ihave H := Hk $$ H
  have he : ((Memref.whole cc0_scratch2).access (Rect.unit (s := S3x512x2048) ![b % 3, 256 * (h % 2), 0] S1x256x2048.size hi)).read (Elt F) g
      = hv h ((lM b).view.read (Elt F) g) := by
    funext x
    unfold hv
    exact congrArg g (key x)
  rw [he]
  iexact H

/-- A load of a row slot, owned. -/
theorem wp_xload (b : ℕ) {off : Fin 3 → ℕ} (e : off = ![b % 4, 0, 0]) {hi : ∀ a, off a + S1x256x2048.size a ≤ S4x256x2048.size a}
    {hl : (Memref.whole cc0_scratch0).view.LoadsAt (Rect.unit (s := S4x256x2048) off S1x256x2048.size hi).toLoadRect}
    {k : (S1x256x2048.Idx → Elt F .bf16) → Prog (TpuEff nD τ sig (Elt F) Λ₀ .tc) α} (q : PosShare TreeShare) (X : Vec F S256x2048 .bf16) :
    (owns (c : Thread nD τ) (xM b) q X : sProp 𝕄)
      ⊢ iprop((owns (c : Thread nD τ) (xM b) q X -∗ WP c (k (up X)) Q)
        -∗ WP c (.op (.load (Memref.whole cc0_scratch0) (Rect.unit (s := S4x256x2048) off S1x256x2048.size hi).toLoadRect hl) k) Q) :=
  wp_sload (xM b) (xM_eq b e hi) q X

/-- A load of a forwarding slot, owned. -/
theorem wp_yload (b : ℕ) {off : Fin 3 → ℕ} (e : off = ![b % 3, 0, 0]) {hi : ∀ a, off a + S1x256x2048.size a ≤ S3x256x2048.size a}
    {hl : (Memref.whole cc0_scratch1).view.LoadsAt (Rect.unit (s := S3x256x2048) off S1x256x2048.size hi).toLoadRect}
    {k : (S1x256x2048.Idx → Elt F .bf16) → Prog (TpuEff nD τ sig (Elt F) Λ₀ .tc) α} (q : PosShare TreeShare) (X : Vec F S256x2048 .bf16) :
    (owns (c : Thread nD τ) (yM b) q X : sProp 𝕄)
      ⊢ iprop((owns (c : Thread nD τ) (yM b) q X -∗ WP c (k (up X)) Q)
        -∗ WP c (.op (.load (Memref.whole cc0_scratch1) (Rect.unit (s := S3x256x2048) off S1x256x2048.size hi).toLoadRect hl) k) Q) :=
  wp_sload (yM b) (yM_eq b e hi) q X

end

end Cert.KIProof

end
-- ==== Proof.Ends.lean ====
/- The parts that finish a block and hand its slots back. -/
module

public import proofs.«01_k».proof.Proof.Finish

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable (c : Dev nD) (i : grid0.Coords) (a2 : Memref sig .tc .vmem S512x2048 .bf16) (h2 : a2.IsWhole) (a3 : Memref sig .tc .vmem S2048 .bf16) (h3 : a3.IsWhole)
  (a4 : Memref sig .tc .vmem S512x2048 .bf16) (h4 : a4.IsWhole)

theorem own_half : (![256 * ((c.val / 4) % 2), 0] : Fin 2 → ℕ) = ![256 * (yc c % 2), 0] := by
  rw [Nat.mod_eq_of_lt (yc_lt c)]; rfl
theorem other_half : 256 - 256 * ((c.val / 4) % 2) = 256 * ((1 - yc c) % 2) := by
  have h := yc_lt c
  have : (c.val / 4) % 2 = yc c := rfl
  omega

/-- The copy of the block awaited, and the half exchanged along the rows read. -/
theorem part1 (q : ℕ) (hq : (i 0).val = q + 2) (v11 v114 : BitVec 32) (h8 : k0_cond8 i = 1#1) (O : CellTallies nD τ sig ℕ)
    (hm : (Levs : sProp 𝕄) ⊢ MayWait (c : Thread nD τ) (lsS q) 0 O) (R : Vec F S512x2048 .bf16) (Q : FVec F S256x2048 .f32 → sProp 𝕄) :
    iprop(Ctx m ∗ kL c q ∗ pL c q ∗ hX m c q ∗ owns (c : Thread nD τ) a2 fullShare R ∗ Owes c O)
      ⊢ iprop(((pL c (q + 3) ∗ owns (c : Thread nD τ) (lM q) fullShare (LB m c q) ∗ hX m c q ∗ owns (c : Thread nD τ) a2 fullShare R ∗ Owes c O)
            -∗ Q (k0_pay2 (hv (yc c) (LB m c q)) (up (XB m (xp c) q (yc c))) (rv (yc c) R)))
          -∗ WP c (k0_part1 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 (BitVec.ofNat 32 (i 0).val) c v11 v114 h8) Q) := by
  have ht := step_lt i
  have hq2 : 2 ≤ (i 0).val := by omega
  have hqq : (i 0).val - 2 = q := by omega
  have o13 := off13_at i hq2
  have o14 := off14_at i hq2
  have o16 := off16_at i c hq2
  have o17 := off17_at i hq2
  rw [hqq] at o13 o14 o16 o17
  simp only [k0_part1_eq_skeleton]; unfold k0_part1_skel
  simp only [Prog.lift, Prog.bind_op, Prog.bind_ret, Prog.pure_eq_ret]
  iintro ⟨#HC, Hk, Hp, Hx, HR, HO⟩ Hw
  unfold pL
  icases Hp with ⟨Hat, -⟩
  iapply (wait_ls m c q (by omega) (ls_sem q o13 _) O hm) $$ [Hk HO Hat]
  · isplitr; · iexact HC
    isplitl [Hk]; · iexact Hk
    isplitl [HO] <;> iassumption
  iintro ⟨HO, HpL, Hl⟩
  iapply (wp_hload q (yc c) (o16.trans (by rw [Nat.mod_eq_of_lt (yc_lt c)]; rfl)) fullShare (LB m c q)) $$ Hl
  iintro Hl
  unfold hX
  iapply (wp_xload q o17 (fullShare : PosShare TreeShare).left (XB m (xp c) q (yc c))) $$ Hx
  iintro Hx
  iapply (wp_oload fullShare R) $$ HR
  iintro HR
  rw [rv_load (yc c) ((k0_off18_eq c).trans (own_half c))]
  simp only [wp_ret]; imodintro
  iapply Hw
  unfold pL
  isplitl [HpL]; · iexact HpL
  isplitl [Hl]; · iexact Hl
  isplitl [Hx]; · iexact Hx
  isplitl [HR] <;> iassumption

/-- That half stored; the forwarded half awaited, and the block's own part of it read. -/
theorem part2 (q : ℕ) (hq : (i 0).val = q + 2) (v2 v8 v10 v11 v13 v125 : BitVec 32) (h8 : k0_cond8 i = 1#1) (v205 : FVec F S256x2048 .f32)
    (O : CellTallies nD τ sig ℕ) (hm : (Levs : sProp 𝕄) ⊢ MayWait (c : Thread nD τ) (yrS q) (ly q) O)
    (G : Vec F S2048 .bf16) (Z : Vec F S512x2048 .bf16) (Q : FVec F S256x2048 .f32 → sProp 𝕄) :
    iprop(Ctx m ∗ cY c q ∗ atPos ER (cellAt c (yrS q)) (q / 3) ∅ 0 ∗ owns (c : Thread nD τ) (lM q) fullShare (LB m c q)
        ∗ owns (c : Thread nD τ) a3 fullShare G ∗ owns (c : Thread nD τ) a4 fullShare Z ∗ Owes c O)
      ⊢ iprop(((atPos ER (cellAt c (yrS (q + 3))) ((q + 3) / 3) ∅ 0 ∗ reached ER (cellAt c (yrS (q + 3))) ((q + 3) / 3)
            ∗ owns (c : Thread nD τ) (yM q) fullShare (XB m (xp (yp c)) q (1 - yc c)) ∗ owns (c : Thread nD τ) (lM q) fullShare (LB m c q)
            ∗ owns (c : Thread nD τ) a3 fullShare G
            ∗ owns (c : Thread nD τ) a4 fullShare ((Rect.unit (s := S512x2048) (k0_off18 c) S256x2048.size (k0_off18_inb i c h8)).overlay Z (k0_pay3 v205 G)) ∗ Owes c O)
            -∗ Q (k0_pay4 (hv (1 - yc c) (LB m c q))))
          -∗ WP c (k0_part2 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 (BitVec.ofNat 32 (i 0).val) c v2 v8 v10 v11 v13 v125 h8 v205) Q) := by
  have ht := step_lt i
  have hq2 : 2 ≤ (i 0).val := by omega
  have hqq : (i 0).val - 2 = q := by omega
  have o13 := off13_at i hq2
  have o21 := off21_at i c hq2
  rw [hqq] at o13 o21
  rw [other_half] at o21
  simp only [k0_part2_eq_skeleton]; unfold k0_part2_skel
  simp only [Prog.lift, Prog.bind_op, Prog.bind_ret, Prog.pure_eq_ret]
  iintro ⟨#HC, Hk, Hat, Hl, HG, HZ, HO⟩ Hw
  iapply (wp_oload fullShare G) $$ HG
  iintro HG
  rw [gv_load]
  iapply (wp_oload fullShare Z) $$ HZ
  iintro HZ
  iapply (wp_ostore Z) $$ HZ
  iintro HZ
  iapply (wait_yr m c q (by omega) (yr_sem q o13 _) O hm) $$ [Hk HO Hat]
  · isplitr; · iexact HC
    isplitl [Hk]; · iexact Hk
    isplitl [HO] <;> iassumption
  iintro ⟨HO, Hat, Hr, Hy⟩
  iapply (wp_hload q (1 - yc c) o21 fullShare (LB m c q)) $$ Hl
  iintro Hl
  simp only [wp_ret]; imodintro
  iapply Hw
  isplitl [Hat]; · iexact Hat
  isplitl [Hr]; · iexact Hr
  isplitl [Hy]; · iexact Hy
  isplitl [Hl]; · iexact Hl
  isplitl [HG]; · iexact HG
  isplitl [HZ]; · iexact HZ
  iexact HO

/-! ## Handing slots back -/

/-- The row slot handed back, when a later block uses it; kept at the end. -/
theorem hand_x {α : Type} (P : Prop) [Decidable P] (t : ℕ) (hP : P ↔ 2 ≤ t ∧ t ≤ 13) (h2t : 2 ≤ t) (ht : t < 18) (n : P → Dev nD) (hn : ∀ h, n h = xp c) (a b f : ℕ)
    (k : Prog (TpuEff nD τ sig (Elt F) Λ₀ .tc) α) (Q : α → sProp 𝕄) :
    iprop(Ctx m ∗ SE c t ∗ FrX c (t + 2) ∗ reached ER (cellAt c (xrS (t + 2))) ((t + 2) / 4) ∗ Owes c (OO c a b (max 4 (t + 2)) f))
      ⊢ iprop(((SE c (t + 1) ∗ Owes c (OO c a b (max 4 (t + 3)) f)) -∗ WP c k Q)
        -∗ WP c (if h : P then (do semSignalWord (n h) cc0_scratch8.sem 1#32; k) else k) Q) := by
  unfold SE
  by_cases hp : P
  · have hq := hP.mp hp
    rw [dif_pos hp, hn]
    simp only [semSignalWord, Prog.lift, Prog.bind_op, Prog.bind_ret]
    have e1 : max 4 (t + 2) = t + 2 := by omega
    have e2 : min 16 (t + 2) = t + 2 := by omega
    have e3 : max 4 (t + 1 + 2) = t + 2 + 1 := by omega
    have e4 : min 16 (t + 2 + 1) = t + 2 + 1 := by omega
    rw [e1, e2, e3, e4]
    iintro ⟨#HC, ⟨Ht, HF, HX⟩, Hx, Hr, HO⟩ Hk
    ihave Ht := (blk_take (tX c) (show t + 2 < 16 by omega)) $$ Ht
    icases Ht with ⟨Ht1, Ht⟩
    iapply (give_x m c (xp c) rfl (t + 2) (by omega) rfl (OO c a b (t + 2) f) (OO c a b (t + 2 + 1) f) (OO_c c _ _ _ _ (by omega))) $$ [Ht1 Hx Hr HF HO]
    · isplitr; · iexact HC
      isplitl [Ht1]; · iexact Ht1
      isplitl [Hx]; · iexact Hx
      isplitl [Hr]; · iexact Hr
      isplitl [HF] <;> iassumption
    iintro ⟨HF, HO⟩
    ihave HX := (blk_re (FrX c) 16 (t + 2) 16 (t + 1 + 2) (by omega)) $$ HX
    iapply Hk
    isplitr [HO]
    · isplitl [Ht]; · iexact Ht
      isplitl [HF] <;> iassumption
    iexact HO
  · have hq : ¬ (2 ≤ t ∧ t ≤ 13) := fun hh => hp (hP.mpr hh)
    rw [dif_neg hp]
    have e1 : min 16 (max 4 (t + 1 + 2)) = min 16 (max 4 (t + 2)) := by omega
    have e2 : OO c a b (max 4 (t + 2)) f = OO c a b (max 4 (t + 3)) f := OO_congr c (by omega) (by omega) (by omega) (by omega)
    rw [e1, e2]
    iintro ⟨#HC, ⟨Ht, HF, HX⟩, Hx, Hr, HO⟩ Hk
    ihave HX := (blk_put (FrX c) (show 16 ≤ t + 2 by omega)) $$ [Hx HX]
    · isplitl [Hx] <;> iassumption
    ihave Ht := (blk_re (tX c) (max 4 (t + 2)) 16 (max 4 (t + 1 + 2)) 16 (by omega)) $$ Ht
    iapply Hk
    isplitr [HO]
    · isplitl [Ht]; · iexact Ht
      isplitl [HF] <;> iassumption
    iexact HO

/-- The forwarding slot handed back, when a later block uses it; kept at the end. -/
theorem hand_y {α : Type} (P : Prop) [Decidable P] (t : ℕ) (hP : P ↔ 2 ≤ t ∧ t ≤ 14) (h2t : 2 ≤ t) (ht : t < 18) (n : P → Dev nD) (hn : ∀ h, n h = yp c) (a b e : ℕ)
    (k : Prog (TpuEff nD τ sig (Elt F) Λ₀ .tc) α) (Q : α → sProp 𝕄) :
    iprop(Ctx m ∗ SF c t ∗ FrY c (t + 1) ∗ reached ER (cellAt c (yrS (t + 1))) ((t + 1) / 3) ∗ Owes c (OO c a b e (max 3 (t + 1))))
      ⊢ iprop(((SF c (t + 1) ∗ Owes c (OO c a b e (max 3 (t + 2)))) -∗ WP c k Q)
        -∗ WP c (if h : P then (do semSignalWord (n h) cc0_scratch9.sem 1#32; k) else k) Q) := by
  unfold SF
  by_cases hp : P
  · have hq := hP.mp hp
    rw [dif_pos hp, hn]
    simp only [semSignalWord, Prog.lift, Prog.bind_op, Prog.bind_ret]
    have e1 : max 3 (t + 1) = t + 1 := by omega
    have e2 : min 16 (t + 1) = t + 1 := by omega
    have e3 : max 3 (t + 1 + 1) = t + 1 + 1 := by omega
    have e4 : min 16 (t + 1 + 1) = t + 1 + 1 := by omega
    rw [e1, e2, e3, e4]
    iintro ⟨#HC, ⟨Ht, HF, HX⟩, Hx, Hr, HO⟩ Hk
    ihave Ht := (blk_take (tY c) (show t + 1 < 16 by omega)) $$ Ht
    icases Ht with ⟨Ht1, Ht⟩
    iapply (give_y m c (yp c) rfl (t + 1) (by omega) rfl (OO c a b e (t + 1)) (OO c a b e (t + 1 + 1)) (OO_d c _ _ _ _ (by omega))) $$ [Ht1 Hx Hr HF HO]
    · isplitr; · iexact HC
      isplitl [Ht1]; · iexact Ht1
      isplitl [Hx]; · iexact Hx
      isplitl [Hr]; · iexact Hr
      isplitl [HF] <;> iassumption
    iintro ⟨HF, HO⟩
    ihave HX := (blk_re (FrY c) 16 (t + 1) 16 (t + 1 + 1) (by omega)) $$ HX
    iapply Hk
    isplitr [HO]
    · isplitl [Ht]; · iexact Ht
      isplitl [HF] <;> iassumption
    iexact HO
  · have hq : ¬ (2 ≤ t ∧ t ≤ 14) := fun hh => hp (hP.mpr hh)
    rw [dif_neg hp]
    have e1 : min 16 (max 3 (t + 1 + 1)) = min 16 (max 3 (t + 1)) := by omega
    have e2 : OO c a b e (max 3 (t + 1)) = OO c a b e (max 3 (t + 2)) := OO_congr c (by omega) (by omega) (by omega) (by omega)
    rw [e1, e2]
    iintro ⟨#HC, ⟨Ht, HF, HX⟩, Hx, Hr, HO⟩ Hk
    ihave HX := (blk_put (FrY c) (show 16 ≤ t + 1 by omega)) $$ [Hx HX]
    · isplitl [Hx] <;> iassumption
    ihave Ht := (blk_re (tY c) (max 3 (t + 1)) 16 (max 3 (t + 1 + 1)) 16 (by omega)) $$ Ht
    iapply Hk
    isplitr [HO]
    · isplitl [Ht]; · iexact Ht
      isplitl [HF] <;> iassumption
    iexact HO

/-- At the first steps nothing is handed back. -/
theorem early (t : ℕ) (ht : t < 2) : iprop(SE c t ∗ SF c t) ⊢ iprop(SE (F := F) c (t + 1) ∗ SF c (t + 1)) := by
  unfold SE SF
  have e1 : max 4 (t + 1 + 2) = max 4 (t + 2) := by omega
  have e2 : max 3 (t + 1 + 1) = max 3 (t + 1) := by omega
  rw [e1, e2]
  iintro ⟨⟨H1, H2, H3⟩, H4, H5, H6⟩
  ihave H3 := (blk_re (FrX c) 16 (t + 2) 16 (t + 1 + 2) (by omega)) $$ H3
  ihave H6 := (blk_re (FrY c) 16 (t + 1) 16 (t + 1 + 1) (by omega)) $$ H6
  isplitl [H1 H2 H3]
  · isplitl [H1]; · iexact H1
    isplitl [H2] <;> iassumption
  isplitl [H4]; · iexact H4
  isplitl [H5] <;> iassumption

end

end Cert.KIProof

end
-- ==== Proof.Open.lean ====
/- The opening part of a step. -/
module

public import proofs.«01_k».proof.Proof.Front

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable {α : Type}

/-- No blocks. -/
theorem blk_nil (Φ : ℕ → sProp 𝕄) {a e : ℕ} (h : e ≤ a) : (emp : sProp 𝕄) ⊢ Blk Φ a e := by
  show _ ⊢ bigSep _ _
  rw [Finset.Ico_eq_empty_of_le h, bigSep_empty]
  exact .rfl

section

variable (c : Dev nD) (i : grid0.Coords) (a2 : Memref sig .tc .vmem S512x2048 .bf16) (h2 : a2.IsWhole) (a3 : Memref sig .tc .vmem S2048 .bf16) (h3 : a3.IsWhole)
  (a4 : Memref sig .tc .vmem S512x2048 .bf16) (h4 : a4.IsWhole)

/-- The first row slots, handed over. -/
theorem open_x (n : ℕ) (hn : n ≤ 4) : iprop(Ctx m ∗ Blk (fun b => iprop(Release.readerAt ES (c, true, b) 0 ∗ FrX c b)) 0 n) ⊢ (|={Set.univ}=> FX c n : sProp 𝕄) := by
  induction n with
  | zero => unfold FX; rw [Finset.range_zero, bigSep_empty]; iintro -; imodintro; iempintro
  | succ n ih =>
    iintro ⟨#HC, H⟩
    ihave H := (Entails.of_eq (bigSep_Ico_succ_top (Nat.zero_le n) (fun b => iprop(Release.readerAt ES (c, true, b) 0 ∗ FrX c b)))) $$ H
    icases H with ⟨⟨Hr, Hf⟩, H⟩
    imod (ih (by omega)) $$ [H] with HF
    · isplitr; · iexact HC
      iexact H
    imod (giveX m c n (by omega)) $$ [Hr Hf] with Hrel
    · isplitr; · iexact HC
      isplitl [Hr] <;> iassumption
    ihave Hr0 := (ctx_reached m c ⟨4 + n % 4, by omega⟩ ((csem_dma (4 + n % 4) (by omega)).trans (show _ = xrS n by unfold xrS; congr 2; omega))) $$ HC
    imodintro
    iapply (FX_succ (F := F) c n)
    isplitr [HF]
    · isplitl [Hrel]; · iexact Hrel
      rw [show n / 4 = 0 by omega]; iexact Hr0
    iexact HF

/-- The first forwarding slots, handed over. -/
theorem open_y (n : ℕ) (hn : n ≤ 3) : iprop(Ctx m ∗ Blk (fun b => iprop(Release.readerAt ES (c, false, b) 0 ∗ FrY c b)) 0 n) ⊢ (|={Set.univ}=> FY c n : sProp 𝕄) := by
  induction n with
  | zero => unfold FY; rw [Finset.range_zero, bigSep_empty]; iintro -; imodintro; iempintro
  | succ n ih =>
    iintro ⟨#HC, H⟩
    ihave H := (Entails.of_eq (bigSep_Ico_succ_top (Nat.zero_le n) (fun b => iprop(Release.readerAt ES (c, false, b) 0 ∗ FrY c b)))) $$ H
    icases H with ⟨⟨Hr, Hf⟩, H⟩
    imod (ih (by omega)) $$ [H] with HF
    · isplitr; · iexact HC
      iexact H
    imod (giveY m c n (by omega)) $$ [Hr Hf] with Hrel
    · isplitr; · iexact HC
      isplitl [Hr] <;> iassumption
    ihave Hr0 := (ctx_reached m c ⟨11 + n % 3, by omega⟩ ((csem_dma (11 + n % 3) (by omega)).trans (show _ = yrS n by unfold yrS; congr 2; omega))) $$ HC
    imodintro
    iapply (FY_succ (F := F) c n)
    isplitr [HF]
    · isplitl [Hrel]; · iexact Hrel
      rw [show n / 3 = 0 by omega]; iexact Hr0
    iexact HF

/-- The wait on the barrier: both peers' slots, and the cell's counter back. -/
theorem wait_bar {k : PUnit → Prog (TpuEff nD τ sig (Elt F) Λ₀ .tc) α} {Q : α → sProp 𝕄} {sem : Sem sig} (hs : SemLoc.reg sem = barS) :
    iprop(Ctx m ∗ cred (tallyAt (cellAt c barS) 1 2) ∗ Owes c (OO c 0 0 4 3) ∗ atPos ER (cellAt c barS) 0 ∅ 0)
      ⊢ iprop(((Owes c (OO c 0 0 4 3) ∗ FX (xp c) 4 ∗ FY (yp c) 3 ∗ semVal (cellAt c barS) 0) -∗ WP c (k ⟨⟩) Q)
          -∗ WP c (.op (.semWait sem 2) k) Q) := by
  unfold Owes
  iintro ⟨#HC, Hcr, ⟨%W, HO⟩, Hat⟩ Hk
  ihave #HI := (ctx_bar m c) $$ HC
  ihave #Hlev := (ctx_lev m) $$ HC
  ihave HM := (may c barS 1 0 0 4 3 (by omega) (by omega) (by omega) (by omega) (by omega)) $$ Hlev
  unfold cInv
  icases HI with ⟨%κ, #HI⟩
  have hx : 0 + 2 = (Rd (F := F) m).expect (cellAt c barS) 0 := by rw [expect_at, role_bar]; rfl
  rw [← hs]
  rw [← hs] at hx
  iapply (Rounds.wp_wait_rest_token 𝒱₀ ER (Rd m) (c : Thread nD τ) none (κ := κ)
      (wpE_semWait_eq 𝒱₀ (c : Thread nD τ) none Set.univ) (Set.mem_univ _) 1 (O := OO c 0 0 4 3) (W := W) (R := 0) (m := 0) (T := ∅) hx) $$ [Hcr HO Hat HM]
  · isplitr; · iexact HI
    isplitl [Hcr]; · iexact Hcr
    isplitl [HO]; · iexact HO
    isplitl [HM]; · iexact HM
    iexact Hat
  rw [hs, duties_bar, Finset.sdiff_empty, bigSep_range_succ, bigSep_range_succ, Finset.range_zero, bigSep_empty, pay_bar0, pay_bar1]
  iintro ⟨HO, Hat, -, HY, HX, -⟩
  imod (Rounds.cell_close ER (Rd m) (Set.mem_univ κ) (fun h => h) (R := 0 + 1)
    (fun r hr => duties_late m (by rw [role_bar]; show (if r = 0 then Finset.range 2 else ∅) = ∅; exact if_neg (by omega)))) $$ [Hat] with Hv
  · isplitr; · iexact HI
    iexact Hat
  iapply Hk
  isplitl [HO]; · iexists _; iexact HO
  isplitl [HX]; · iexact HX
  isplitl [HY]; · iexact HY
  iexact Hv

/-- The parts a device holds when the first exchange is made. -/
theorem st_zero :
    iprop((Blk (aX c) 1 16 ∗ FX (xp c) 4 ∗ QX m c 0 ∗ Blk (cC c) 4 16) ∗ (Blk (aL c) 0 16 ∗ FY (yp c) 3 ∗ QY m c 0 ∗ Blk (cD c) 3 16) ∗ SC c 0 ∗ SD c 0
        ∗ (Blk (tX c) 4 16 ∗ FX c 4) ∗ (Blk (tY c) 3 16 ∗ FY c 3) ∗ (kX c 0 ∗ Blk (FrL c) 0 3) ∗ Arg m c ∗ semVal (cellAt c barS) 0) ⊢ St m c 0 := by
  unfold St SA SB SE SF SG
  iintro ⟨HA, HB, HC, HD, ⟨HE, HE'⟩, ⟨HG, HG'⟩, ⟨Hk, Hl⟩, Ha, Hb⟩
  isplitl [HA]; · iexact HA
  isplitl [HB]; · iexact HB
  isplitl [HC]; · iexact HC
  isplitl [HD]; · iexact HD
  isplitl [HE HE']
  · isplitl [HE]; · iexact HE
    isplitl [HE']; · iexact HE'
    iapply (blk_nil (FrX c) (by omega)); iempintro
  isplitl [HG HG']
  · isplitl [HG]; · iexact HG
    isplitl [HG']; · iexact HG'
    iapply (blk_nil (FrY c) (by omega)); iempintro
  isplitl [Hk Hl]
  · isplitl [Hk]
    · iapply (blk_put (kX c) (Nat.le_refl 0))
      isplitl [Hk]; · iexact Hk
      iapply (blk_nil (kX c) (Nat.le_refl 0)); iempintro
    isplitr; · iapply (blk_nil (kY c) (Nat.le_refl 0)); iempintro
    isplitr; · iapply (blk_nil (hX m c) (Nat.le_refl 0)); iempintro
    isplitr; · iapply (blk_nil (kL c) (Nat.le_refl 0)); iempintro
    iexact Hl
  isplitl [Ha] <;> iassumption

/-- What the first part yields. -/
abbrev yields (v2 v5 v8 v9 v10 v11 v13 v21 : BitVec 32) :
    Σ' (_ : BitVec 32) (_ : Dev nD) (_ : BitVec 32) (_ : BitVec 32) (_ : BitVec 32) (_ : BitVec 32) (_ : BitVec 32) (_ : BitVec 32) (_ : BitVec 32) (_ : BitVec 32) (_ : BitVec 32), BitVec 32 :=
  ⟨BitVec.ofNat 32 (i 0).val, c, v2, v5, v8, v9, v10, v11, v13, Scalar.addi (BitVec.ofNat 32 (i 0).val) 1#32, v21, 4#32⟩

/-- The opening at the first step: the peers met, the first block's row exchange made. -/
theorem part3_zero (h0 : (i 0).val = 0) (Q : (Σ' (_ : BitVec 32) (_ : Dev nD) (_ : BitVec 32) (_ : BitVec 32) (_ : BitVec 32) (_ : BitVec 32) (_ : BitVec 32) (_ : BitVec 32) (_ : BitVec 32) (_ : BitVec 32) (_ : BitVec 32), BitVec 32) → sProp 𝕄) :
    iprop(Ctx m ∗ Start m c ∗ Owes c (O₀ c))
      ⊢ iprop((∀ v2 v5 v8 v9 v10 v11 v13 v21, (St m c 0 ∗ Owes c (OS c 0)) -∗ Q (yields c i v2 v5 v8 v9 v10 v11 v13 v21)) -∗ WP c (k0_part3 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9) Q) := by
  simp only [k0_part3_eq_skeleton]; unfold k0_part3_skel
  have q1 := (cond1_iff i).mpr h0
  have q2 := (cond2_iff i).mpr h0
  simp only [semSignalWord, semWaitWord, Prog.lift, Prog.bind_op, Prog.bind_ret, Prog.pure_eq_ret, wp_deviceId]
  unfold Start
  iintro ⟨#HC, ⟨HaX, HQX, HcC, HaL, HQY, HcD, HSC, HSD, HtX, HfX, HtY, HfY, HfL, ⟨Ht0, Ht1, Hat, Hcr⟩, Ha⟩, HO⟩ Hk
  imod (open_x m c 4 (Nat.le_refl 4)) $$ [HfX] with #HFX
  · isplitr; · iexact HC
    iexact HfX
  imod (open_y m c 3 (Nat.le_refl 3)) $$ [HfY] with #HFY
  · isplitr; · iexact HC
    iexact HfY
  rw [dif_pos q1]
  ihave #HIx := (ctx_bar m (xp c)) $$ HC
  ihave #HIy := (ctx_bar m (yp c)) $$ HC
  ihave #HRx := (ctx_reached m (xp c) 19 (show csem 19 = barS from rfl)) $$ HC
  ihave #HRy := (ctx_reached m (yp c) 19 (show csem 19 = barS from rfl)) $$ HC
  have n1 : (⟨k0_dev1 c, k0_dev1_lt i c q1⟩ : Dev nD) = xp c := dev1_eq c _
  have n2 : (⟨k0_dev2 c, k0_dev2_lt i c q1⟩ : Dev nD) = yp c := dev2_eq c _
  rw [n1, n2]
  iapply (wp_unit m c (xp c) barS rfl 0 1 (by rw [duties_bar]; decide) (by rw [role_bar]; rfl) (O₀ c) (OB c) rfl) $$ [HO Ht0]
  · isplitr; · iexact HIx
    isplitl [HO]; · iexact HO
    isplitl [Ht0]; · iexact Ht0
    isplitr; · rw [pay_bar0, xp_xp]; iexact HFX
    iexact HRx
  iintro HO
  iapply (wp_unit m c (yp c) barS rfl 1 1 (by rw [duties_bar]; decide) (by rw [role_bar]; rfl) (OB c) (OO c 0 0 4 3) rfl) $$ [HO Ht1]
  · isplitr; · iexact HIy
    isplitl [HO]; · iexact HO
    isplitl [Ht1]; · iexact Ht1
    isplitr; · rw [pay_bar1, yp_yp]; iexact HFY
    iexact HRy
  iintro HO
  iapply (wait_bar m c rfl) $$ [Hcr HO Hat]
  · isplitr; · iexact HC
    isplitl [Hcr]; · iexact Hcr
    isplitl [HO] <;> iassumption
  iintro ⟨HO, #HFX', HFY', Hsv⟩
  rw [dif_pos q2]
  ihave HaX := (blk_take (aX c) (show 0 < 16 by omega)) $$ HaX
  icases HaX with ⟨Hx, HaX⟩
  ihave #Hr := (ctx_reached m c 0 (show csem 0 = xsS 0 from rfl)) $$ HC
  iapply (put_x m c ⟨k0_dev3 c, k0_dev3_lt i c q2⟩ (dev3_eq c _) 0 (by omega)
      (xs_sem 0 rfl _) (xr_sem 0 rfl _)
      (rowsM_eq 0 (yc c) ((k0_off1_eq c).trans ((by rw [Nat.mul_zero, Nat.zero_add] : _ = ![0, 512 * 0 + 256 * ((c.val / 4) % 2), 0]).trans (rows_off c 0 (by omega)))) _)
      (xM_eq 0 rfl _) 4 (by omega) (OO c 0 0 4 3) (OS c 0) (OO_x c _ _ _ _ (by omega))) $$ [Hx Ha HO]
  · isplitr; · iexact HC
    isplitl [Hx]; · iexact Hx
    isplitr; · iexact HFX'
    isplitr; · iexact Hr
    isplitl [Ha] <;> iassumption
  iintro ⟨Hkx, Ha, HO⟩
  simp only [wp_ret]; imodintro
  iapply Hk
  isplitr [HO]
  · iapply (st_zero m c)
    isplitl [HaX HQX HcC]
    · isplitl [HaX]; · iexact HaX
      isplitr; · iexact HFX'
      isplitl [HQX] <;> iassumption
    isplitl [HaL HFY' HQY HcD]
    · isplitl [HaL]; · iexact HaL
      isplitl [HFY']; · iexact HFY'
      isplitl [HQY] <;> iassumption
    isplitl [HSC]; · iexact HSC
    isplitl [HSD]; · iexact HSD
    isplitl [HtX]
    · isplitl [HtX]; · iexact HtX
      iexact HFX
    isplitl [HtY]
    · isplitl [HtY]; · iexact HtY
      iexact HFY
    isplitl [Hkx HfL]
    · isplitl [Hkx] <;> iassumption
    isplitl [Ha] <;> iassumption
  iexact HO

/-- The opening at a later step does nothing. -/
theorem part3_later (h0 : (i 0).val ≠ 0) (Q : (Σ' (_ : BitVec 32) (_ : Dev nD) (_ : BitVec 32) (_ : BitVec 32) (_ : BitVec 32) (_ : BitVec 32) (_ : BitVec 32) (_ : BitVec 32) (_ : BitVec 32) (_ : BitVec 32) (_ : BitVec 32), BitVec 32) → sProp 𝕄) :
    iprop(∀ v2 v5 v8 v9 v10 v11 v13 v21, Q (yields c i v2 v5 v8 v9 v10 v11 v13 v21)) ⊢ WP c (k0_part3 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9) Q := by
  simp only [k0_part3_eq_skeleton]; unfold k0_part3_skel
  have q1 : ¬ k0_cond1 i = 1#1 := fun h => h0 ((cond1_iff i).mp h)
  have q2 : ¬ k0_cond2 i = 1#1 := fun h => h0 ((cond2_iff i).mp h)
  simp only [Prog.lift, Prog.bind_op, Prog.bind_ret, Prog.pure_eq_ret, wp_deviceId]
  rw [dif_neg q1]
  rw [dif_neg q2]
  simp only [Prog.lift, Prog.bind_op, Prog.bind_ret, Prog.pure_eq_ret, wp_ret]
  iintro Hk
  imodintro
  iapply Hk

end

end Cert.KIProof

end
-- ==== Proof.Late.lean ====
/- A block finished: the parts for it taken, its two halves stored, its slots free again. -/
module

public import proofs.«01_k».proof.Proof.Ends
public import proofs.«01_k».proof.Proof.Open

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable {α : Type}
variable (c : Dev nD) (i : grid0.Coords) (a2 : Memref sig .tc .vmem S512x2048 .bf16) (h2 : a2.IsWhole) (a3 : Memref sig .tc .vmem S2048 .bf16) (h3 : a3.IsWhole)
  (a4 : Memref sig .tc .vmem S512x2048 .bf16) (h4 : a4.IsWhole)

/-- A program's first part, then the rest. -/
theorem wp_first {β : Type} (p : Prog (TpuEff nD τ sig (Elt F) Λ₀ .tc) β) (k : β → Prog (TpuEff nD τ sig (Elt F) Λ₀ .tc) α) (Q : α → sProp 𝕄) :
    WP c p (fun x => WP c (k x) Q) ⊢ WP c (p >>= k) Q :=
  Entails.of_eq (wp_bind _ _ _ p k Q).symm

/-- A slot owned whole is free for the block that uses it next. -/
theorem free_x (b : ℕ) (X : Vec F S256x2048 .bf16) : owns (c : Thread nD τ) (xM b) fullShare X ⊢ FrX (F := F) c (b + 4) := by
  unfold FrX
  rw [xM_congr (show (b + 4) % 4 = b % 4 by omega)]
  unfold owns Release.slot
  iintro ⟨%f, -, H⟩
  iexists f
  iexact H
theorem free_y (b : ℕ) (X : Vec F S256x2048 .bf16) : owns (c : Thread nD τ) (yM b) fullShare X ⊢ FrY (F := F) c (b + 3) := by
  unfold FrY
  rw [yM_congr (show (b + 3) % 3 = b % 3 by omega)]
  unfold owns Release.slot
  iintro ⟨%f, -, H⟩
  iexists f
  iexact H
theorem free_l (b : ℕ) (X : Vec F S512x2048 .bf16) : owns (c : Thread nD τ) (lM b) fullShare X ⊢ FrL (F := F) c (b + 3) := by
  unfold FrL
  rw [lM_congr (show (b + 3) % 3 = b % 3 by omega)]
  unfold owns Release.slot
  iintro ⟨%f, -, H⟩
  iexists f
  iexact H

/-- The finishing of block `q`: both halves stored, and its three slots free. -/
theorem finish (q : ℕ) (hq : (i 0).val = q + 2) (v2 v8 v10 v11 v13 v114 v125 : BitVec 32) (h8 : k0_cond8 i = 1#1) (a b e f : ℕ)
    (ha : 10 * q + 28 < 10 * a + 17 ∧ 10 * q + 28 < 10 * b + 28 ∧ 10 * q + 35 < 10 * e ∧ 10 * q + 28 < 10 * f + 16)
    (R : Vec F S512x2048 .bf16) (G : Vec F S2048 .bf16) (Z : Vec F S512x2048 .bf16) (k : Prog (TpuEff nD τ sig (Elt F) Λ₀ .tc) α) (Q : α → sProp 𝕄) :
    iprop(Ctx m ∗ (cY c q ∗ pY c q ∗ pL c q ∗ kL c q ∗ kY c q ∗ hX m c q)
        ∗ owns (c : Thread nD τ) a2 fullShare R ∗ owns (c : Thread nD τ) a3 fullShare G ∗ owns (c : Thread nD τ) a4 fullShare Z ∗ Owes c (OO c a b e f))
      ⊢ iprop((((pY c (q + 3) ∗ pL c (q + 3)) ∗ (FrX c (q + 4) ∗ FrY c (q + 3) ∗ FrL c (q + 3))
            ∗ owns (c : Thread nD τ) a2 fullShare R ∗ owns (c : Thread nD τ) a3 fullShare G ∗ owns (c : Thread nD τ) a4 fullShare (outv m c q R G) ∗ Owes c (OO c a b e f))
            -∗ WP c k Q)
        -∗ WP c (do
          let v205 : FVec F S256x2048 .f32 ← k0_part1 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 (BitVec.ofNat 32 (i 0).val) c v11 v114 h8
          let v242 : FVec F S256x2048 .f32 ← k0_part2 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9 (BitVec.ofNat 32 (i 0).val) c v2 v8 v10 v11 v13 v125 h8 v205
          let v244 : Vec F S1x256x2048 .bf16 ← Prog.lift (.load (Memref.whole cc0_scratch1) (Rect.unit (s := S3x256x2048) (k0_off22 i) S1x256x2048.size (k0_off22_inb i h8)).toLoadRect (View.loadsAt_vmem h_S1x256x2048))
          let v249 : Vec F S256x2048 .bf16 ← Prog.lift (.load a2 (Rect.unit (s := S512x2048) (k0_off23 c) S256x2048.size (k0_off23_inb i c h8)).toLoadRect (View.loadsAt_vmem h_S256x2048))
          let v263 : Vec F S2048 .bf16 ← Prog.lift (.load a3 (Rect.unit (s := S2048) ![0] S2048.size inb_S2048_S2048_0).toLoadRect (View.loadsAt_vmem h_S2048))
          let v271 : Vec F S256x2048 .bf16 ← Prog.lift (.load a4 (Rect.unit (s := S512x2048) (k0_off23 c) S256x2048.size (k0_off23_inb i c h8)).toLoadRect (View.loadsAt_vmem h_S256x2048))
          Prog.lift (.store a4 (Rect.unit (s := S512x2048) (k0_off23 c) S256x2048.size (k0_off23_inb i c h8)) (k0_pay1 v242 v244 v249 v263) Finset.univ (View.stores_vmem h_S256x2048 (h4.storeExact_slice rfl _ (k0_off23_packedbf16 i c h8)) (fun _ => rfl)) (.inl rfl))
          Prog.lift (.waitDma2 ((cc0_scratch5.slice (Rect.unit (s := S3) (k0_off13 i) S1.size (k0_off13_inb i h8))).squeeze S_ squeezes_S1_S_).sem
                (((Memref.whole cc0_scratch1).slice (Rect.unit (s := S3x256x2048) (k0_off19 i) S1x256x2048.size (k0_off19_inb i h8)) (fun _ => rfl)).squeeze S256x2048 squeezes_S1x256x2048_S256x2048)
                (((Memref.whole cc0_scratch0).slice (Rect.unit (s := S4x256x2048) (k0_off20 i) S1x256x2048.size (k0_off20_inb i h8)) (fun _ => rfl)).squeeze S256x2048 squeezes_S1x256x2048_S256x2048)
                (((Memref.isWhole_whole _).wordExact_slice rfl _ (k0_off19_wordsbf16 i h8)).reshape _ _) (((Memref.isWhole_whole _).wordExact_slice rfl _ (k0_off20_wordsbf16 i h8)).reshape _ _))
          k) Q) := by
  have ht := step_lt i
  have hq2 : 2 ≤ (i 0).val := by omega
  have hqq : (i 0).val - 2 = q := by omega
  have o13 := off13_at i hq2
  have o22 := off22_at i hq2
  rw [hqq] at o13 o22
  simp only [Prog.lift, Prog.bind_op, Prog.bind_ret, Prog.pure_eq_ret]
  iintro ⟨#HC, ⟨HcY, HpY, HpL, HkL, HkY, HhX⟩, HR, HG, HZ, HO⟩ Hw
  ihave #Hlev := (ctx_lev m) $$ HC
  iapply (wp_first c _ _ _)
  iapply (part1 m c i a2 h2 a3 h3 a4 h4 q hq v11 v114 h8 (OO c a b e f) (may c (lsS q) 0 a b e f (by omega) (by omega) (by omega) (by omega) (by omega)) R _) $$ [HkL HpL HhX HR HO]
  · isplitr; · iexact HC
    isplitl [HkL]; · iexact HkL
    isplitl [HpL]; · iexact HpL
    isplitl [HhX]; · iexact HhX
    isplitl [HR] <;> iassumption
  iintro ⟨HpL, HlM, HhX, HR, HO⟩
  iapply (wp_first c _ _ _)
  unfold pY
  icases HpY with ⟨⟨Hys, -⟩, Hyr, -⟩
  iapply (part2 m c i a2 h2 a3 h3 a4 h4 q hq v2 v8 v10 v11 v13 v125 h8 _ (OO c a b e f) (may c (yrS q) (ly q) a b e f (by unfold ly; omega) (by unfold ly; omega) (by unfold ly; omega) (by unfold ly; omega) (by unfold ly; omega)) G Z _) $$ [HcY Hyr HlM HG HZ HO]
  · isplitr; · iexact HC
    isplitl [HcY]; · iexact HcY
    isplitl [Hyr]; · iexact Hyr
    isplitl [HlM]; · iexact HlM
    isplitl [HG]; · iexact HG
    isplitl [HZ] <;> iassumption
  iintro ⟨Hyr, Hyr', HyM, HlM, HG, HZ, HO⟩
  iapply (wp_yload q o22 fullShare _) $$ HyM
  iintro HyM
  iapply (wp_oload fullShare R) $$ HR
  iintro HR
  rw [rv_load (1 - yc c) ((k0_off23_eq c).trans (by rw [other_half]))]
  iapply (wp_oload fullShare G) $$ HG
  iintro HG
  rw [gv_load]
  iapply (wp_oload fullShare _) $$ HZ
  iintro HZ
  iapply (wp_ostore _) $$ HZ
  iintro HZ
  iapply (wait_ys m c q (by omega) (ys_sem q o13 _) (OO c a b e f) (may c (ysS q) 0 a b e f (by omega) (by omega) (by omega) (by omega) (by omega))) $$ [HkY HO Hys]
  · isplitr; · iexact HC
    isplitl [HkY]; · iexact HkY
    isplitl [HO] <;> iassumption
  iintro ⟨HO, Hys, Hys', HxM⟩
  unfold hX
  ihave HxM := (owns_halves (c : Thread nD τ) (xM q) fullShare (XB m (xp c) q (yc c))).2 $$ [HhX HxM]
  · isplitl [HhX] <;> iassumption
  iapply Hw
  isplitl [Hys Hys' Hyr Hyr' HpL]
  · isplitr [HpL]
    · isplitl [Hys Hys']
      · isplitl [Hys] <;> iassumption
      isplitl [Hyr] <;> iassumption
    iexact HpL
  isplitl [HxM HyM HlM]
  · isplitl [HxM]; · iapply (free_x c q _); iexact HxM
    isplitl [HyM]; · iapply (free_y c q _); iexact HyM
    iapply (free_l c q _); iexact HlM
  isplitl [HR]; · iexact HR
  isplitl [HG]; · iexact HG
  isplitl [HZ]
  · rw [← overlay_both m c q ((k0_off18_eq c).trans (own_half c)) ((k0_off23_eq c).trans (by rw [other_half])) (k0_off18_inb i c h8) (k0_off23_inb i c h8) Z R G]
    iexact HZ
  iexact HO

/-- The parts block `q` is finished from, taken out of what the step holds. -/
theorem split_late (t q : ℕ) (hq : t = q + 2) (ht : t < 18) :
    iprop(SD c t ∗ Blk (kY c) (t - 2) (min t 16) ∗ Blk (hX m c) (t - 2) (min t 16) ∗ Blk (kL c) (t - 2) (min (t + 1) 16))
      ⊢ iprop((cY c q ∗ pY c q ∗ pL c q ∗ kL c q ∗ kY c q ∗ hX m c q)
        ∗ ((pY c (q + 3) ∗ pL c (q + 3)) -∗ (SD c (t + 1) ∗ Blk (kY c) (t + 1 - 2) (min t 16) ∗ Blk (hX m c) (t + 1 - 2) (min t 16) ∗ Blk (kL c) (t + 1 - 2) (min (t + 1) 16)))) := by
  subst hq
  unfold SD
  rw [show q + 2 - 2 = q by omega, show q + 2 + 1 - 2 = q + 1 by omega]
  iintro ⟨⟨HcY, HpY, HpL⟩, HkY, HhX, HkL⟩
  ihave HcY := (blk_take (cY c) (show q < 16 by omega)) $$ HcY
  icases HcY with ⟨HcY, HcY'⟩
  ihave HpY := (blk_take (pY c) (show q < q + 3 by omega)) $$ HpY
  icases HpY with ⟨HpY, HpY'⟩
  ihave HpL := (blk_take (pL c) (show q < q + 3 by omega)) $$ HpL
  icases HpL with ⟨HpL, HpL'⟩
  ihave HkY := (blk_take (kY c) (show q < min (q + 2) 16 by omega)) $$ HkY
  icases HkY with ⟨HkY, HkY'⟩
  ihave HhX := (blk_take (hX m c) (show q < min (q + 2) 16 by omega)) $$ HhX
  icases HhX with ⟨HhX, HhX'⟩
  ihave HkL := (blk_take (kL c) (show q < min (q + 2 + 1) 16 by omega)) $$ HkL
  icases HkL with ⟨HkL, HkL'⟩
  isplitl [HcY HpY HpL HkL HkY HhX]
  · isplitl [HcY]; · iexact HcY
    isplitl [HpY]; · iexact HpY
    isplitl [HpL]; · iexact HpL
    isplitl [HkL]; · iexact HkL
    isplitl [HkY] <;> iassumption
  iintro ⟨HpY, HpL⟩
  isplitl [HcY' HpY HpY' HpL HpL']
  · isplitl [HcY']; · iexact HcY'
    isplitl [HpY HpY']
    · rw [show q + 1 + 3 = q + 3 + 1 by omega]
      iapply (blk_put (pY c) (show q + 1 ≤ q + 3 by omega))
      isplitl [HpY] <;> iassumption
    rw [show q + 1 + 3 = q + 3 + 1 by omega]
    iapply (blk_put (pL c) (show q + 1 ≤ q + 3 by omega))
    isplitl [HpL] <;> iassumption
  isplitl [HkY']; · iexact HkY'
  isplitl [HhX'] <;> iassumption

/-- At the first steps no block is finished. -/
theorem skip_late (t : ℕ) (ht : t < 2) :
    iprop(SD c t ∗ Blk (kY c) (t - 2) (min t 16) ∗ Blk (hX m c) (t - 2) (min t 16) ∗ Blk (kL c) (t - 2) (min (t + 1) 16) ∗ Blk (FrL c) (min (t + 1) 16) (max 3 (t + 1)))
      ⊢ iprop(SD c (t + 1) ∗ Blk (kY c) (t + 1 - 2) (min t 16) ∗ Blk (hX m c) (t + 1 - 2) (min t 16) ∗ Blk (kL c) (t + 1 - 2) (min (t + 1) 16)
        ∗ Blk (FrL c) (min (t + 1) 16) (max 3 (t + 2))) := by
  unfold SD
  rw [show t + 1 - 2 = t - 2 by omega, show max 3 (t + 2) = max 3 (t + 1) by omega]

end

end Cert.KIProof

end
-- ==== Proof.Body.lean ====
/- One step of the kernel, from what a device holds before it to what it holds after. -/
module

public import proofs.«01_k».proof.Proof.Late

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable {α : Type}
variable (c : Dev nD) (i : grid0.Coords) (a2 : Memref sig .tc .vmem S512x2048 .bf16) (h2 : a2.IsWhole) (a3 : Memref sig .tc .vmem S2048 .bf16) (h3 : a3.IsWhole)
  (a4 : Memref sig .tc .vmem S512x2048 .bf16) (h4 : a4.IsWhole)

/-- What a step leaves in the output window. -/
def left (t : ℕ) (R : Vec F S512x2048 .bf16) (G : Vec F S2048 .bf16) (Z : Vec F S512x2048 .bf16) : Vec F S512x2048 .bf16 :=
  if 2 ≤ t then outv m c (t - 2) R G else Z

/-- Both slots handed back, from a step that finished a block. -/
theorem both_back (Ph9 Ph10 : Prop) [Decidable Ph9] [Decidable Ph10] (t : ℕ) (h9 : Ph9 ↔ 2 ≤ t ∧ t ≤ 13) (h10 : Ph10 ↔ 2 ≤ t ∧ t ≤ 14) (ht : t < 18)
    (n9 : Ph9 → Dev nD) (hn9 : ∀ h, n9 h = xp c) (n10 : Ph10 → Dev nD) (hn10 : ∀ h, n10 h = yp c) (Q : PUnit → sProp 𝕄) :
    iprop(Ctx m ∗ SC c (t + 1) ∗ SD c (t + 1) ∗ (SE c t ∗ SF c t)
        ∗ ((⌜2 ≤ t⌝ ∗ FrX c (t + 2) ∗ FrY c (t + 1)) ∨ ⌜t < 2⌝) ∗ Owes c (OO c (t + 2) t (max 4 (t + 2)) (max 3 (t + 1))))
      ⊢ iprop(((SC c (t + 1) ∗ SD c (t + 1) ∗ SE c (t + 1) ∗ SF c (t + 1) ∗ Owes c (OS c (t + 1))) -∗ Q ⟨⟩)
        -∗ WP c (if h : Ph9 then (do
              semSignalWord (n9 h) cc0_scratch8.sem 1#32
              if h' : Ph10 then (do semSignalWord (n10 h') cc0_scratch9.sem 1#32; pure ⟨⟩) else pure ⟨⟩)
            else if h' : Ph10 then (do semSignalWord (n10 h') cc0_scratch9.sem 1#32; pure ⟨⟩) else pure ⟨⟩) Q) := by
  unfold SC SD
  iintro ⟨#HC, ⟨HcX, HpX, HaY⟩, ⟨HcY, HpY, HpL⟩, ⟨HE, HF⟩, Hfr, HO⟩ Hk
  icases Hfr with (⟨%h2t, Hx, Hy⟩ | %h2t)
  · ihave #Hrx := (pX_reached c (a := min (t + 1 - 1) 16) (e := min (t + 1 - 1) 16 + 4) (b := t + 2) (by omega)) $$ HpX
    ihave #Hry := (pY_reached c (a := t + 1 - 2) (e := t + 1 - 2 + 3) (b := t + 1) (by omega)) $$ HpY
    icases Hrx with ⟨-, #Hrx⟩
    icases Hry with ⟨-, #Hry⟩
    iapply (hand_x m c Ph9 t h9 h2t ht n9 hn9 (t + 2) t (max 3 (t + 1)) _ Q) $$ [HE Hx HO]
    · isplitr; · iexact HC
      isplitl [HE]; · iexact HE
      isplitl [Hx]; · iexact Hx
      isplitr; · iexact Hrx
      iexact HO
    iintro ⟨HE, HO⟩
    iapply (hand_y m c Ph10 t h10 h2t ht n10 hn10 (t + 2) t (max 4 (t + 3)) _ Q) $$ [HF Hy HO]
    · isplitr; · iexact HC
      isplitl [HF]; · iexact HF
      isplitl [Hy]; · iexact Hy
      isplitr; · iexact Hry
      iexact HO
    iintro ⟨HF, HO⟩
    simp only [Prog.pure_eq_ret, wp_ret]; imodintro
    iapply Hk
    isplitl [HcX HpX HaY]
    · isplitl [HcX]; · iexact HcX
      isplitl [HpX] <;> iassumption
    isplitl [HcY HpY HpL]
    · isplitl [HcY]; · iexact HcY
      isplitl [HpY] <;> iassumption
    isplitl [HE]; · iexact HE
    isplitl [HF]; · iexact HF
    iexact HO
  · have q9 : ¬ Ph9 := fun h => by have := (h9.mp h).1; omega
    have q10 : ¬ Ph10 := fun h => by have := (h10.mp h).1; omega
    rw [dif_neg q9, dif_neg q10]
    ihave HEF := (early (F := F) c t h2t) $$ [HE HF]
    · isplitl [HE] <;> iassumption
    icases HEF with ⟨HE, HF⟩
    have eo : OO c (t + 2) t (max 4 (t + 2)) (max 3 (t + 1)) = OS c (t + 1) := OO_congr c (by omega) (by omega) (by omega) (by omega)
    rw [eo]
    simp only [Prog.pure_eq_ret, wp_ret]; imodintro
    iapply Hk
    isplitl [HcX HpX HaY]
    · isplitl [HcX]; · iexact HcX
      isplitl [HpX] <;> iassumption
    isplitl [HcY HpY HpL]
    · isplitl [HcY]; · iexact HcY
      isplitl [HpY] <;> iassumption
    isplitl [HE]; · iexact HE
    isplitl [HF]; · iexact HF
    iexact HO

/-- What a device holds before a step, taken apart, and put together again. -/
theorem st_parts (t : ℕ) : St m c t
    ⊢ iprop(SA m c t ∗ SB m c t ∗ (Blk (cX c) (t - 1) 16 ∗ Blk (pX c) (min (t - 1) 16) (min (t - 1) 16 + 4) ∗ Blk (aY c) (t - 1) 16) ∗ (Blk (cY c) (t - 2) 16 ∗ Blk (pY c) (t - 2) (t - 2 + 3) ∗ Blk (pL c) (t - 2) (t - 2 + 3)) ∗ SE c t ∗ SF c t
      ∗ (Blk (kX c) (t - 1) (min (t + 1) 16) ∗ Blk (kY c) (t - 2) (min (t - 1) 16) ∗ Blk (hX m c) (t - 2) (min (t - 1) 16)
        ∗ Blk (kL c) (t - 2) (min t 16) ∗ Blk (FrL c) (min t 16) (max 3 (t + 1))) ∗ Arg m c ∗ semVal (cellAt c barS) 0) := by
  unfold St SC SD SG
  exact .rfl
theorem st_join (t : ℕ) : iprop((SA m c (t + 1) ∗ SB m c (t + 1) ∗ Arg m c ∗ semVal (cellAt c barS) 0)
      ∗ (Blk (kX c) t (min (t + 2) 16) ∗ Blk (kY c) (t + 1 - 2) (min t 16) ∗ Blk (hX m c) (t + 1 - 2) (min t 16)
        ∗ Blk (kL c) (t + 1 - 2) (min (t + 1) 16) ∗ Blk (FrL c) (min (t + 1) 16) (max 3 (t + 2)))
      ∗ SC c (t + 1) ∗ SD c (t + 1) ∗ SE c (t + 1) ∗ SF c (t + 1)) ⊢ St m c (t + 1) := by
  unfold St SG
  rw [show t + 1 - 1 = t by omega]
  iintro ⟨⟨HA, HB, Ha, Hbar⟩, HG, HC, HD, HE, HF⟩
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [Ha] <;> iassumption

/-- The forwarding slots known open after the credits of a step. -/
theorem sb_fy (t : ℕ) : SB m c (t + 1) ⊢ iprop(FY (yp c) (min 16 (max 3 t)) ∗ SB m c (t + 1)) := by
  unfold SB
  rw [show t + 1 - 1 = t by omega]
  iintro ⟨H1, #H2, H3⟩
  isplitr; · iexact H2
  isplitl [H1]; · iexact H1
  isplitr; · iexact H2
  iexact H3

/-- A step, its opening given. -/
theorem step (Pre : sProp 𝕄)
    (hopen : ∀ Q, iprop(Ctx m ∗ Pre) ⊢ iprop((∀ v2 v5 v8 v9 v10 v11 v13 v21, (St m c (i 0).val ∗ Owes c (OS c (i 0).val)) -∗ Q (yields c i v2 v5 v8 v9 v10 v11 v13 v21))
      -∗ WP c (k0_part3 i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9) Q))
    (R : Vec F S512x2048 .bf16) (G : Vec F S2048 .bf16) (Z : Vec F S512x2048 .bf16) :
    iprop(Ctx m ∗ Pre ∗ owns (c : Thread nD τ) a2 fullShare R ∗ owns (c : Thread nD τ) a3 fullShare G ∗ owns (c : Thread nD τ) a4 fullShare Z)
      ⊢ WP c (cc0_body i (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9) (fun _ => iprop((St m c ((i 0).val + 1) ∗ Owes c (OS c ((i 0).val + 1)))
          ∗ owns (c : Thread nD τ) a2 fullShare R ∗ owns (c : Thread nD τ) a3 fullShare G ∗ owns (c : Thread nD τ) a4 fullShare (left m c (i 0).val R G Z))) := by
  have ht := step_lt i
  simp only [cc0_body_eq_skeleton]; unfold cc0_body_skel
  dsimp only
  iintro ⟨#HC, HPre, HR, HG, HZ⟩
  iapply (wp_first c _ _ _)
  iapply (hopen _) $$ [HPre]
  · isplitr; · iexact HC
    iexact HPre
  iintro %v2 %v5 %v8 %v9 %v10 %v11 %v13 %v21 ⟨HSt, HO⟩
  dsimp only
  ihave HSt := (st_parts m c (i 0).val) $$ HSt
  icases HSt with ⟨HA, HB, HSC, ⟨HcY, HpY, HpL⟩, HE, HF, ⟨HkX, HkY, HhX, HkL, HfL⟩, Ha, Hbar⟩
  icases HSC with ⟨HcX, HpX, HaY⟩
  iapply (wp_first c _ _ _)
  iapply (part4 m c i a2 h2 a3 h3 a4 h4 v5 v8 v9 v11 v21 _) $$ [HA HkX HpX Ha HO]
  · isplitr; · iexact HC
    isplitl [HA]; · iexact HA
    isplitl [HkX]; · iexact HkX
    isplitl [HpX]; · iexact HpX
    isplitl [Ha] <;> iassumption
  iintro ⟨HA, HkX, HpX, Ha, HO⟩
  iapply (wp_first c _ _ _)
  iapply (part5 m c i a2 h2 a3 h3 a4 h4 v11 ((i 0).val + 2) ((i 0).val - 1) (max 4 ((i 0).val + 2)) (max 3 ((i 0).val + 1)) (by omega) _) $$ [HB HkL HfL HpL Ha HO]
  · isplitr; · iexact HC
    isplitl [HB]; · iexact HB
    isplitl [HkL]; · iexact HkL
    isplitl [HfL]; · iexact HfL
    isplitl [HpL]; · iexact HpL
    isplitl [Ha] <;> iassumption
  iintro %v101 ⟨HB, HkL, HfL, HpL, Ha, HO⟩
  ihave HB := (sb_fy m c (i 0).val) $$ HB
  icases HB with ⟨#HFY, HB⟩
  iapply (wp_first c _ _ _)
  iapply (part6 m c i a2 h2 a3 h3 a4 h4 v2 v5 v8 v9 v10 v101 _) $$ [HcX HpX HaY HkX HkY HhX HpY HO]
  · isplitr; · iexact HC
    isplitl [HcX HpX HaY]
    · unfold SC
      isplitl [HcX]; · iexact HcX
      isplitl [HpX] <;> iassumption
    isplitl [HkX]; · iexact HkX
    isplitl [HkY]; · iexact HkY
    isplitl [HhX]; · iexact HhX
    isplitl [HpY]; · iexact HpY
    isplitr; · iexact HFY
    iexact HO
  iintro %v ⟨HSC, HkX, HkY, HhX, HpY, HO⟩
  obtain ⟨v114, v125, v131, v132, v133, v134, c0⟩ := v
  dsimp only
  have c9 := (cond9_iff i)
  have c10 := (cond10_iff i)
  by_cases h8 : k0_cond8 i = 1#1
  · have h2t := (cond8_iff i).mp h8
    obtain ⟨q, hq⟩ : ∃ q, (i 0).val = q + 2 := ⟨(i 0).val - 2, by omega⟩
    have hz : left m c (i 0).val R G Z = outv m c q R G := by
      unfold left
      rw [if_pos h2t, show (i 0).val - 2 = q by omega]
    rw [dif_pos h8, hz]
    ihave HL := (split_late m c (i 0).val q hq ht) $$ [HcY HpY HpL HkY HhX HkL]
    · isplitl [HcY HpY HpL]
      · unfold SD
        isplitl [HcY]; · iexact HcY
        isplitl [HpY] <;> iassumption
      isplitl [HkY]; · iexact HkY
      isplitl [HhX] <;> iassumption
    icases HL with ⟨HL, HL'⟩
    iapply (finish m c i a2 h2 a3 h3 a4 h4 q hq v2 v8 v10 v11 v13 v114 v125 h8 ((i 0).val + 2) (i 0).val (max 4 ((i 0).val + 2)) (max 3 ((i 0).val + 1)) (by omega) R G Z _ _) $$ [HL HR HG HZ HO]
    · isplitr; · iexact HC
      isplitl [HL]; · iexact HL
      isplitl [HR]; · iexact HR
      isplitl [HG]; · iexact HG
      isplitl [HZ] <;> iassumption
    iintro ⟨Hp, ⟨HxF, HyF, HlF⟩, HR, HG, HZ, HO⟩
    ihave HL' := HL' $$ Hp
    icases HL' with ⟨HSD, HkY, HhX, HkL⟩
    iapply (both_back m c _ _ (i 0).val c9 c10 ht (fun h => ⟨k0_dev6 c, k0_dev6_lt i c h⟩) (fun h => dev6_eq c _)
      (fun h => ⟨k0_dev7 c, k0_dev7_lt i c h⟩) (fun h => dev7_eq c _) _) $$ [HSC HSD HE HF HxF HyF HO]
    · isplitr; · iexact HC
      isplitl [HSC]; · iexact HSC
      isplitl [HSD]; · iexact HSD
      isplitl [HE HF]
      · isplitl [HE] <;> iassumption
      isplitr [HO]
      · ileft
        isplitr; · ipureintro; exact h2t
        rw [show (i 0).val + 2 = q + 4 by omega, show (i 0).val + 1 = q + 3 by omega]
        isplitl [HxF] <;> iassumption
      iexact HO
    iintro ⟨HSC, HSD, HE, HF, HO⟩
    isplitr [HR HG HZ]
    · isplitr [HO]
      · iapply (st_join m c (i 0).val)
        isplitl [HA HB Ha Hbar]
        · isplitl [HA]; · iexact HA
          isplitl [HB]; · iexact HB
          isplitl [Ha] <;> iassumption
        isplitl [HkX HkY HhX HkL HfL HlF]
        · isplitl [HkX]; · iexact HkX
          isplitl [HkY]; · iexact HkY
          isplitl [HhX]; · iexact HhX
          isplitl [HkL]; · iexact HkL
          rw [show max 3 ((i 0).val + 1) = q + 3 by omega, show max 3 ((i 0).val + 2) = q + 3 + 1 by omega]
          iapply (blk_put (FrL c) (show min ((i 0).val + 1) 16 ≤ q + 3 by omega))
          isplitl [HlF] <;> iassumption
        isplitl [HSC]; · iexact HSC
        isplitl [HSD]; · iexact HSD
        isplitl [HE] <;> iassumption
      iexact HO
    isplitl [HR]; · iexact HR
    isplitl [HG] <;> iassumption
  · have h2t : ¬ 2 ≤ (i 0).val := fun h => h8 ((cond8_iff i).mpr h)
    have hz : left m c (i 0).val R G Z = Z := by
      unfold left
      rw [if_neg h2t]
    rw [dif_neg h8, hz]
    ihave HL := (skip_late m c (i 0).val (by omega)) $$ [HcY HpY HpL HkY HhX HkL HfL]
    · isplitl [HcY HpY HpL]
      · unfold SD
        isplitl [HcY]; · iexact HcY
        isplitl [HpY] <;> iassumption
      isplitl [HkY]; · iexact HkY
      isplitl [HhX]; · iexact HhX
      isplitl [HkL] <;> iassumption
    icases HL with ⟨HSD, HL⟩
    iapply (both_back m c _ _ (i 0).val c9 c10 ht (fun h => ⟨k0_dev6 c, k0_dev6_lt i c h⟩) (fun h => dev6_eq c _)
      (fun h => ⟨k0_dev7 c, k0_dev7_lt i c h⟩) (fun h => dev7_eq c _) _) $$ [HSC HSD HE HF HO]
    · isplitr; · iexact HC
      isplitl [HSC]; · iexact HSC
      isplitl [HSD]; · iexact HSD
      isplitl [HE HF]
      · isplitl [HE] <;> iassumption
      isplitr [HO]
      · iright
        ipureintro; omega
      iexact HO
    iintro ⟨HSC, HSD, HE, HF, HO⟩
    isplitr [HR HG HZ]
    · isplitr [HO]
      · iapply (st_join m c (i 0).val)
        isplitl [HA HB Ha Hbar]
        · isplitl [HA]; · iexact HA
          isplitl [HB]; · iexact HB
          isplitl [Ha] <;> iassumption
        isplitl [HkX HL]
        · isplitl [HkX] <;> iassumption
        isplitl [HSC]; · iexact HSC
        isplitl [HSD]; · iexact HSD
        isplitl [HE] <;> iassumption
      iexact HO
    isplitl [HR]; · iexact HR
    isplitl [HG] <;> iassumption

end

end Cert.KIProof

end
-- ==== Proof.Close.lean ====
/- After the last step: every cell closed, every slot free. -/
module

public import proofs.«01_k».proof.Proof.State

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable (c : Dev nD)

/-! ## Closing the cells after the last step -/

/-- A cell whose rounds are over gives its counter back. -/
theorem close_cell (s : SemLoc sig) (R : ℕ) (hR : ∀ r, R ≤ r → dutiesR (role s) r = ∅) (hc : Ctx (F := F) m ⊢ cInv m (cellAt c s)) :
    iprop(Ctx m ∗ atPos ER (cellAt c s) R ∅ 0) ⊢ |={Set.univ}=> (semVal (cellAt c s) 0 : sProp 𝕄) := by
  iintro ⟨#HC, Ha⟩
  ihave #HI := hc $$ HC
  unfold cInv
  icases HI with ⟨%κ, #HI⟩
  iapply (Rounds.cell_close ER (Rd m) (Set.mem_univ κ) (fun h => h) (R := R) (fun r hr => duties_late m (hR r hr)))
  isplitr; · iexact HI
  iexact Ha

/-- A step made for every block of a family. -/
theorem blk_upd {R : sProp 𝕄} [BI.Persistent R] {Φ Ψ : ℕ → sProp 𝕄} (a e : ℕ) (h : ∀ b, a ≤ b → iprop(R ∗ Φ b) ⊢ |={Set.univ}=> Ψ b) :
    iprop(R ∗ Blk Φ a e) ⊢ |={Set.univ}=> Blk Ψ a e :=
  ((sep_mono_left (BI.bigSep_of_persistent (Finset.Ico a e) R)).trans
    (by rw [← bigSep_sep']; exact bigSep_mono fun b hb => h b (Finset.mem_Ico.mp hb).1)).trans (bigSep_fupd _ _)

/-- The counters of block `b`'s cells, at zero. -/
def zX (b : ℕ) : sProp 𝕄 := iprop(semVal (cellAt c (xsS b)) 0 ∗ semVal (cellAt c (xrS b)) 0)
def zY (b : ℕ) : sProp 𝕄 := iprop(semVal (cellAt c (ysS b)) 0 ∗ semVal (cellAt c (yrS b)) 0)
def zL (b : ℕ) : sProp 𝕄 := semVal (cellAt c (lsS b)) 0

theorem close_x (b : ℕ) (hb : 16 ≤ b) : iprop(Ctx m ∗ pX c b) ⊢ |={Set.univ}=> zX (F := F) c b := by
  unfold pX zX
  iintro ⟨#HC, ⟨Ha, -⟩, Hb, -⟩
  imod (close_cell m c (xsS b) (b / 4) (fun r hr => by rw [role_xs]; show (if _ then _ else _) = _; exact if_neg (by omega)) (ctx_xs m c b)) $$ [Ha] with H1
  · isplitr <;> iassumption
  imod (close_cell m c (xrS b) (b / 4) (fun r hr => by rw [role_xr]; show (if _ then _ else _) = _; exact if_neg (by omega)) (ctx_xr m c b)) $$ [Hb] with H2
  · isplitr <;> iassumption
  imodintro
  isplitl [H1] <;> iassumption
theorem close_y (b : ℕ) (hb : 16 ≤ b) : iprop(Ctx m ∗ pY c b) ⊢ |={Set.univ}=> zY (F := F) c b := by
  unfold pY zY
  iintro ⟨#HC, ⟨Ha, -⟩, Hb, -⟩
  imod (close_cell m c (ysS b) (b / 3) (fun r hr => by rw [role_ys]; show (if _ then _ else _) = _; exact if_neg (by omega)) (ctx_ys m c b)) $$ [Ha] with H1
  · isplitr <;> iassumption
  imod (close_cell m c (yrS b) (b / 3) (fun r hr => by rw [role_yr]; show (if _ then _ else _) = _; exact if_neg (by omega)) (ctx_yr m c b)) $$ [Hb] with H2
  · isplitr <;> iassumption
  imodintro
  isplitl [H1] <;> iassumption
theorem close_l (b : ℕ) (hb : 16 ≤ b) : iprop(Ctx m ∗ pL c b) ⊢ |={Set.univ}=> zL (F := F) c b := by
  unfold pL zL
  iintro ⟨#HC, Ha, -⟩
  iapply (close_cell m c (lsS b) (b / 3) (fun r hr => by rw [role_ls]; show (if _ then _ else _) = _; exact if_neg (by omega)) (ctx_ls m c b))
  isplitr <;> iassumption

/-- A credit cell all of whose credits are taken gives its counter back. -/
theorem close_credit (s : SemLoc sig) (lo : ℕ) (T : Finset ℕ) (hd : (Rd (F := F) m).duties (cellAt c s) 0 = Finset.Ico lo 16) (ha : amountR (role s) = 1)
    (hR : ∀ r, 1 ≤ r → dutiesR (role s) r = ∅) (hT : T ⊆ Finset.Ico lo 16 ∧ 16 - lo ≤ T.card) (hc : Ctx (F := F) m ⊢ cInv m (cellAt c s)) :
    iprop(Ctx m ∗ atPos ER (cellAt c s) 0 T (16 - lo)) ⊢ |={Set.univ}=> (semVal (cellAt c s) 0 : sProp 𝕄) := by
  have hTe : T = Finset.Ico lo 16 := Finset.eq_of_subset_of_card_le hT.1 (by rw [Nat.card_Ico]; exact hT.2)
  iintro ⟨#HC, Ha⟩
  ihave #HI := hc $$ HC
  unfold cInv
  icases HI with ⟨%κ, #HI⟩
  imod (Rounds.fupd_skip ER (Rd m) (g := cellAt c s) (κ := κ) (R := 0) (m := 16 - lo) (T := T) (by rw [hd, hTe])
    (by rw [expect_at, ← duties_at m c s 0, hd, ha, Nat.card_Ico, Nat.mul_one]) (Set.mem_univ κ)) $$ [Ha] with ⟨Ha, -⟩
  · isplitr; · iexact HI
    iexact Ha
  iapply (Rounds.cell_close ER (Rd m) (Set.mem_univ κ) (fun h => h) (R := 0 + 1) (fun r hr => duties_late m (hR r (by omega))))
  isplitr; · iexact HI
  iexact Ha
theorem close_xc : iprop(Ctx m ∗ QX m c 12) ⊢ |={Set.univ}=> (semVal (cellAt c xcS) 0 : sProp 𝕄) := by
  unfold QX
  iintro ⟨#HC, ⟨%T, %hT, Ha, -⟩⟩
  iapply (close_credit m c xcS 4 T (duties_xc m c) rfl (fun r hr => if_neg (by omega)) hT (ctx_xc m c))
  isplitr <;> iassumption
theorem close_yc : iprop(Ctx m ∗ QY m c 13) ⊢ |={Set.univ}=> (semVal (cellAt c ycS) 0 : sProp 𝕄) := by
  unfold QY
  iintro ⟨#HC, ⟨%T, %hT, Ha, -⟩⟩
  iapply (close_credit m c ycS 3 T (duties_yc m c) rfl (fun r hr => if_neg (by omega)) hT (ctx_yc m c))
  isplitr <;> iassumption

/-- What a device holds after the last step, the debts apart. -/
def End : sProp 𝕄 :=
  iprop((Blk (zX c) 16 20 ∗ Blk (zY c) 16 19 ∗ Blk (zL c) 16 19 ∗ semVal (cellAt c xcS) 0 ∗ semVal (cellAt c ycS) 0)
    ∗ (Blk (FrX c) 16 20 ∗ Blk (FrY c) 16 19 ∗ Blk (FrL c) 16 19) ∗ Arg m c ∗ semVal (cellAt c barS) 0)

/-- After the last step every cell is closed and every slot is free. -/
theorem close_all : iprop(Ctx m ∗ St m c 18) ⊢ |={Set.univ}=> End m c := by
  unfold St SA SB SC SD SE SF SG End
  iintro ⟨#HC, ⟨-, -, Hxc, -⟩, ⟨-, -, Hyc, -⟩, ⟨-, HpX, -⟩, ⟨-, HpY, HpL⟩, ⟨-, -, HfX⟩, ⟨-, -, HfY⟩, ⟨-, -, -, -, HfL⟩, HArg, Hbar⟩
  imod (blk_upd (R := Ctx m) 16 20 (fun b hb => close_x m c b hb)) $$ [HpX] with HzX
  · isplitr; · iexact HC
    iapply (blk_re (pX c) (min (18 - 1) 16) (min (18 - 1) 16 + 4) 16 20 (Or.inl ⟨rfl, rfl⟩)); iexact HpX
  imod (blk_upd (R := Ctx m) 16 19 (fun b hb => close_y m c b hb)) $$ [HpY] with HzY
  · isplitr; · iexact HC
    iapply (blk_re (pY c) (18 - 2) (18 - 2 + 3) 16 19 (Or.inl ⟨rfl, rfl⟩)); iexact HpY
  imod (blk_upd (R := Ctx m) 16 19 (fun b hb => close_l m c b hb)) $$ [HpL] with HzL
  · isplitr; · iexact HC
    iapply (blk_re (pL c) (18 - 2) (18 - 2 + 3) 16 19 (Or.inl ⟨rfl, rfl⟩)); iexact HpL
  imod (close_xc m c) $$ [Hxc] with Hxc
  · isplitr; · iexact HC
    iapply (Entails.of_eq (show QX m c (min (18 - 3) 12) = QX m c 12 from rfl)); iexact Hxc
  imod (close_yc m c) $$ [Hyc] with Hyc
  · isplitr; · iexact HC
    iapply (Entails.of_eq (show QY m c (min (18 - 4) 13) = QY m c 13 from rfl)); iexact Hyc
  imodintro
  isplitl [HzX HzY HzL Hxc Hyc]
  · isplitl [HzX]; · iexact HzX
    isplitl [HzY]; · iexact HzY
    isplitl [HzL]; · iexact HzL
    isplitl [Hxc] <;> iassumption
  isplitl [HfX HfY HfL]
  · isplitl [HfX]; · iexact HfX
    isplitl [HfY]; · iexact HfY
    iapply (blk_re (FrL c) (min 18 16) (max 3 (18 + 1)) 16 19 (Or.inl ⟨rfl, rfl⟩)); iexact HfL
  isplitl [HArg] <;> iassumption

end

end Cert.KIProof

end
-- ==== Proof.Data.lean ====
/- The proof data, and the body at every point. -/
module

public import proofs.«01_k».proof.Proof.Body
public import proofs.«01_k».proof.Proof.Close
public import proofs.«01_k».proof.Proof.Gen.KernelIdeal.Frame

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable (ρ : Dev nD → PrngReg) (c : Dev nD)

/-! ## The proof data -/

/-- What a device holds before point `n`, the debts apart. -/
def phi (n : ℕ) : sProp 𝕄 := if n = 0 then Start m c else if n = 18 then End m c else St m c n
/-- Its debts there. -/
def owedN (n : ℕ) : CellTallies nD τ sig ℕ := if n = 0 then O₀ c else if n = 18 then 0 else OS c n

/-- The block of the residual a point finds, and the scales. -/
def resB (t : Fin cfg0.N) : Vec F S512x2048 .bf16 := iblk m c 0 t
def gamB (t : Fin cfg0.N) : Vec F S2048 .bf16 := iblk m c 1 t

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => resB m c t
    | ⟨1, _⟩ => gamB m c t
    | ⟨2, _⟩ => outv m c (t.val - 2) (resB m c t) (gamB m c t)
  Φ t := iprop(Ctx m ∗ phi m c t.val)
  q _ := fullShare
  owed t := owedN c t.val

theorem before_res (t : Fin cfg0.N) (d) : (dats m ρ 0 c).before 0 t d = resB m c t :=
  ((dats m ρ 0 c).before_in_eq_fetched 0 rfl (fun _ => rfl) (fun _ _ _ => rfl) (fun t => by unfold Dat.blockOf; rfl) t d).trans
    (by unfold Dat.fetched Dat.blockOf; rfl)
theorem before_gam (t : Fin cfg0.N) (d) : (dats m ρ 0 c).before 1 t d = gamB m c t :=
  ((dats m ρ 0 c).before_in_eq_fetched 1 rfl (fun _ => rfl) (fun _ _ _ => rfl) (fun t => by unfold Dat.blockOf; rfl) t d).trans
    (by unfold Dat.fetched Dat.blockOf; rfl)

/-! ## The body -/

theorem coords_val : ∀ t : Fin grid0.N, (grid0.coords t 0).val = t.val := by decide
theorem early_flush : ∀ t : Fin grid0.N, t.val < 2 → win0_2.flush t = false := by decide +kernel

/-- Before point `n` a step finds what it opens with. -/
theorem opens (t : Fin cfg0.N) (a2 : Memref sig .tc .vmem S512x2048 .bf16) (h2 : a2.IsWhole) (a3 : Memref sig .tc .vmem S2048 .bf16) (h3 : a3.IsWhole)
    (a4 : Memref sig .tc .vmem S512x2048 .bf16) (h4 : a4.IsWhole) (Q) :
    iprop(Ctx m ∗ phi m c t.val ∗ Owes c (owedN c t.val))
      ⊢ iprop((∀ v2 v5 v8 v9 v10 v11 v13 v21, (St m c (grid0.coords t 0).val ∗ Owes c (OS c (grid0.coords t 0).val)) -∗ Q (yields c (grid0.coords t) v2 v5 v8 v9 v10 v11 v13 v21))
      -∗ WP c (k0_part3 (grid0.coords t) (Memref.whole main_arg0) (Memref.isWhole_whole _) a2 h2 a3 h3 a4 h4 (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6 cc0_scratch7 cc0_scratch8 cc0_scratch9) Q) := by
  have hv := coords_val t
  have hN : t.val < 18 := lt_of_lt_of_eq t.isLt N_0
  by_cases h0 : t.val = 0
  · rw [hv, h0]
    unfold phi owedN
    rw [if_pos rfl, if_pos rfl]
    exact part3_zero m c (grid0.coords t) a2 h2 a3 h3 a4 h4 (hv.trans h0) Q
  · unfold phi owedN
    rw [if_neg h0, if_neg (by omega), if_neg h0, if_neg (by omega), hv]
    iintro ⟨-, H⟩ Hk
    iapply (part3_later c (grid0.coords t) a2 h2 a3 h3 a4 h4 (by omega) Q)
    iintro %v2 %v5 %v8 %v9 %v10 %v11 %v13 %v21
    iapply Hk
    iexact H

/-- After point `n` it leaves what the next one finds. -/
theorem leaves_next (n : ℕ) (hn : n < 18) : iprop(Ctx m ∗ St m c (n + 1) ∗ Owes c (OS c (n + 1)))
    ⊢ |={Set.univ}=> iprop(phi m c (n + 1) ∗ Owes c (owedN c (n + 1))) := by
  unfold phi owedN
  rw [if_neg (Nat.succ_ne_zero n), if_neg (Nat.succ_ne_zero n)]
  by_cases h : n = 17
  · subst h
    rw [if_pos rfl, if_pos rfl, show OS c (17 + 1) = 0 from OO_zero c (by omega) (by omega) (by omega) (by omega)]
    iintro ⟨#HC, HS, HO⟩
    imod (close_all m c) $$ [HS] with HE
    · isplitr <;> iassumption
    imodintro
    isplitl [HE] <;> iassumption
  · rw [if_neg (by omega), if_neg (by omega)]
    iintro ⟨-, HS, HO⟩
    imodintro
    isplitl [HS] <;> iassumption

/-- What the output's buffer is left at, as the pipeline asks for it. -/
theorem left_out (t : Fin cfg0.N) (d) :
    owns (c : Thread nD τ) ((cfg0.win 2).stage (cfg0.slots t 2)) fullShare
        (left m c (grid0.coords t 0).val (resB m c t) (gamB m c t) ((dats m ρ 0 c).before 2 t d))
      ⊢ (dats m ρ 0 c).leavesExact 2 t := by
  have hv := coords_val t
  by_cases h : t.val < 2
  · rw [(dats m ρ 0 c).leavesExact_idle 2 t (by
      show (!(k0_cond8 (grid0.coords t) == 1#1)) = true
      have h8 : ¬ k0_cond8 (grid0.coords t) = 1#1 := fun hc => by have := (cond8_iff _).mp hc; omega
      simp [h8]) (early_flush t h)]
    unfold left
    rw [if_neg (by omega)]
    iintro H
    iexists d
    iexact H
  · have h8 : k0_cond8 (grid0.coords t) = 1#1 := (cond8_iff _).mpr (by omega)
    have hi : cfg0.idle 2 (cfg0.grid.coords t) = false := by
      show (!(k0_cond8 (grid0.coords t) == 1#1)) = false
      simp [h8]
    unfold Dat.leavesExact
    rw [hi]
    unfold left
    rw [if_pos (by omega), hv]
    exact .rfl

/-- What the pipeline hands a point, and what it wants back. -/
def bodyPre (t : Fin cfg0.N) : sProp 𝕄 :=
  iprop((Ctx m ∗ phi m c t.val) ∗ (dats m ρ 0 c).owesAt 0 t.castSucc
    ∗ (∃ d, owns (c : Thread nD τ) ((cfg0.win 0).stage (cfg0.slots t 0)) fullShare ((dats m ρ 0 c).before 0 t d))
    ∗ (∃ d, owns (c : Thread nD τ) ((cfg0.win 1).stage (cfg0.slots t 1)) fullShare ((dats m ρ 0 c).before 1 t d))
    ∗ (∃ d, owns (c : Thread nD τ) ((cfg0.win 2).stage (cfg0.slots t 2)) fullShare ((dats m ρ 0 c).before 2 t d)))
def bodyPost (t : Fin cfg0.N) : sProp 𝕄 :=
  iprop((Ctx m ∗ phi m c (t.val + 1)) ∗ (dats m ρ 0 c).owesAt 0 t.succ
    ∗ owns (c : Thread nD τ) ((cfg0.win 0).stage (cfg0.slots t 0)) fullShare (resB m c t)
    ∗ owns (c : Thread nD τ) ((cfg0.win 1).stage (cfg0.slots t 1)) fullShare (gamB m c t)
    ∗ (dats m ρ 0 c).leavesExact 2 t)

theorem owesAt_in (t : Fin cfg0.N) : (dats m ρ 0 c).owesAt 0 t.castSucc ⊢ Owes c (owedN c t.val) := by
  unfold Dat.owesAt Pipeline.owesWithin Owes
  iintro ⟨%W, -, H⟩
  iexists W
  iexact H
theorem owesAt_out (t : Fin cfg0.N) : Owes c (owedN c (t.val + 1)) ⊢ (dats m ρ 0 c).owesAt 0 t.succ := by
  unfold Dat.owesAt Pipeline.owesWithin Owes
  iintro ⟨%W, H⟩
  iexists W
  isplitr
  · ipureintro; exact fun _ _ => Or.inl trivial
  iexact H

theorem body_at (t : Fin cfg0.N) : bodyPre m ρ c t ⊢ wp frame (wpE (defs₀ (F := F)) 𝒱₀ (c : Thread nD τ) none) Set.univ (bodyAt0 t) (fun _ => bodyPost m ρ c t) := by
  have hN : t.val < 18 := lt_of_lt_of_eq t.isLt N_0
  unfold bodyPre
  iintro ⟨⟨#HC, Hphi⟩, HO, ⟨%d0, H0⟩, ⟨%d1, H1⟩, ⟨%d2, H2⟩⟩
  rw [before_res m ρ c t d0, before_gam m ρ c t d1]
  ihave HO := (owesAt_in m ρ c t) $$ HO
  iapply (wp_fupd frame (wpE (defs₀ (F := F)) 𝒱₀ (c : Thread nD τ) none) Set.univ)
  iapply (wp_wand_r frame (wpE (defs₀ (F := F)) 𝒱₀ (c : Thread nD τ) none) Set.univ)
  isplitl
  · iapply (step m c (grid0.coords t) _ _ _ _ _ _ iprop(phi m c t.val ∗ Owes c (owedN c t.val)) (opens m c t _ _ _ _ _ _) (resB m c t) (gamB m c t) ((dats m ρ 0 c).before 2 t d2))
    isplitr; · iexact HC
    isplitl [Hphi HO]
    · isplitl [Hphi] <;> iassumption
    isplitl [H0]; · iexact H0
    isplitl [H1]; · iexact H1
    iexact H2
  iintro %_ ⟨⟨HS, HO⟩, H0, H1, H2⟩
  rw [coords_val t]
  imod (leaves_next m c t.val hN) $$ [HS HO] with ⟨Hphi, HO⟩
  · isplitr; · iexact HC
    isplitl [HS] <;> iassumption
  imodintro
  unfold bodyPost
  isplitl [Hphi]
  · isplitr; · iexact HC
    iexact Hphi
  isplitl [HO]; · iapply (owesAt_out m ρ c t); iexact HO
  isplitl [H0]; · iexact H0
  isplitl [H1]; · iexact H1
  iapply (left_out m ρ c t d2)
  rw [coords_val t]
  iexact H2

set_option maxRecDepth 4000 in
/-- The library's body obligation on device `c`. -/
theorem body_obligation : BodyObligation (dats (F := F) m ρ 0 c) (defs₀ (F := F)) 𝒱₀ 0 Set.univ := fun t => by
  rw [bigSep_W0, bigSep_W0]
  show bodyPre m ρ c t ⊢ wp frame (wpE (defs₀ (F := F)) 𝒱₀ (c : Thread nD τ) none) Set.univ (bodyAt0 t) (fun _ => bodyPost m ρ c t)
  exact body_at m ρ c t

end

end Cert.KIProof

end
-- ==== Proof.Cells.lean ====
/- The exchange's semaphores, and the credits dealt at launch. -/
module

public import proofs.«01_k».proof.Proof.Data

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable (c : Dev nD)

theorem star_assoc (P Q R : sProp 𝕄) : iprop((P ∗ Q) ∗ R) = iprop(P ∗ Q ∗ R) := equiv_iff.mp ⟨Idealize.SL.BI.sep_assoc, Idealize.SL.BI.sep_assoc'⟩
theorem star_assoc' (P Q R : sProp 𝕄) : iprop(Idealize.SL.BI.sep P Q ∗ R) = Idealize.SL.BI.sep P iprop(Q ∗ R) := equiv_iff.mp ⟨Idealize.SL.BI.sep_assoc, Idealize.SL.BI.sep_assoc'⟩
theorem star_emp (P : sProp 𝕄) : iprop(P ∗ emp) = P := equiv_iff.mp Idealize.SL.BI.sep_emp

/-! ## A family over the exchange's semaphores, by what they are for -/

/-- One part for each semaphore of a device's exchange. -/
def perSem (Φ : SemLoc sig → sProp 𝕄) : sProp 𝕄 :=
  iprop((Blk (fun b => Φ (xsS b)) 0 4 ∗ Blk (fun b => Φ (xrS b)) 0 4) ∗ (Blk (fun b => Φ (ysS b)) 0 3 ∗ Blk (fun b => Φ (yrS b)) 0 3)
    ∗ Blk (fun b => Φ (lsS b)) 0 3 ∗ (Φ xcS ∗ Φ ycS) ∗ Φ barS)

theorem blk_four (Φ : ℕ → sProp 𝕄) (a : ℕ) : Blk Φ a (a + 4) = iprop(Φ a ∗ Φ (a + 1) ∗ Φ (a + 2) ∗ Φ (a + 3)) := by
  show bigSep (Finset.Ico a (a + 4)) Φ = _
  rw [bigSep_Ico_succ_bot (by omega), bigSep_Ico_succ_bot (by omega), bigSep_Ico_succ_bot (by omega), bigSep_Ico_succ_bot (by omega),
    Finset.Ico_eq_empty_of_le (by omega), bigSep_empty]
  show iprop(Φ a ∗ Φ (a + 1) ∗ Φ (a + 2) ∗ Φ (a + 3) ∗ emp) = _
  rw [star_emp]
theorem blk_three (Φ : ℕ → sProp 𝕄) (a : ℕ) : Blk Φ a (a + 3) = iprop(Φ a ∗ Φ (a + 1) ∗ Φ (a + 2)) := by
  show bigSep (Finset.Ico a (a + 3)) Φ = _
  rw [bigSep_Ico_succ_bot (by omega), bigSep_Ico_succ_bot (by omega), bigSep_Ico_succ_bot (by omega),
    Finset.Ico_eq_empty_of_le (by omega), bigSep_empty]
  show iprop(Φ a ∗ Φ (a + 1) ∗ Φ (a + 2) ∗ emp) = _
  rw [star_emp]

theorem perSem_eq (Φ : SemLoc sig → sProp 𝕄) : bigSep Finset.univ (fun k : Fin 20 => Φ (csem k)) = perSem Φ := by
  rw [bigSep_univ_eq_bigSepL [0, 1, 2, 3, 4, 5, 6, 7, 8, 9, 10, 11, 12, 13, 14, 15, 16, 17, 18, 19] (by decide) (by decide)]
  unfold perSem
  rw [show Blk (fun b => Φ (xsS b)) 0 4 = _ from blk_four _ 0, show Blk (fun b => Φ (xrS b)) 0 4 = _ from blk_four _ 0,
    show Blk (fun b => Φ (ysS b)) 0 3 = _ from blk_three _ 0, show Blk (fun b => Φ (yrS b)) 0 3 = _ from blk_three _ 0,
    show Blk (fun b => Φ (lsS b)) 0 3 = _ from blk_three _ 0]
  simp only [star_assoc]
  rfl

/-! ## The kernel's own semaphores -/

/-- All but the runtime's barrier semaphore are the kernel's. -/
def osem (k : Fin 19) : SemLoc sig := csem k.castSucc
theorem ownSemFacts : Pipeline.OwnSemFacts cfg0.spec osem := by decide +kernel

theorem unscopedSems0_eq : (unscopedSems0 c : sProp 𝕄) = semVal (cellAt c barS) 0 := by
  unfold unscopedSems0; rw [bigSep_eq_bigSepL_of_eq [barS] (by decide) (by decide)]; rfl

theorem sems_eq : iprop(Pipeline.ownSems0 (Ix := ℕ) (Name := ℕ) (U := UU) (Lvl := ℕ) (Val := Elt F) (τ := τ) osem c ∗ unscopedSems0 c)
    = perSem (fun s => (semVal (cellAt c s) 0 : sProp 𝕄)) := by
  rw [unscopedSems0_eq, ← perSem_eq, bigSep_univ_eq_bigSepL [0, 1, 2, 3, 4, 5, 6, 7, 8, 9, 10, 11, 12, 13, 14, 15, 16, 17, 18, 19] (by decide) (by decide),
    Pipeline.ownSems0_eq_of_list c osem [0, 1, 2, 3, 4, 5, 6, 7, 8, 9, 10, 11, 12, 13, 14, 15, 16, 17, 18] (by decide) (by decide)]
  simp only [bigSepL, List.foldr, star_assoc']
  rfl

/-! ## The credits dealt at launch -/

theorem credX : Pipeline.launchCred (fun d => OX d 0) c ⊢ (Blk (cX c) 0 16 : sProp 𝕄) := by
  unfold OX
  rw [Pipeline.launchCred_sum]
  exact bigSep_mono fun b _ => Pipeline.launchCred_tallyAt (xrS b) xp xp xp_xp xp_xp (lx b) NX c
theorem credY : Pipeline.launchCred (fun d => OY d 0) c ⊢ (Blk (cY c) 0 16 : sProp 𝕄) := by
  unfold OY
  rw [Pipeline.launchCred_sum]
  exact bigSep_mono fun b _ => Pipeline.launchCred_tallyAt (yrS b) yp yp yp_yp yp_yp (ly b) NX c
theorem credC : Pipeline.launchCred (fun d => OC d 4) c ⊢ (Blk (cC c) 4 16 : sProp 𝕄) := by
  unfold OC
  rw [Pipeline.launchCred_sum]
  exact bigSep_mono fun b _ => Pipeline.launchCred_tallyAt xcS xp xp xp_xp xp_xp (lxc b) 1 c
theorem credD : Pipeline.launchCred (fun d => OD d 3) c ⊢ (Blk (cD c) 3 16 : sProp 𝕄) := by
  unfold OD
  rw [Pipeline.launchCred_sum]
  exact bigSep_mono fun b _ => Pipeline.launchCred_tallyAt ycS yp yp yp_yp yp_yp (lyc b) 1 c

theorem creds : Pipeline.launchCred O₀ c ⊢ iprop(Blk (cX c) 0 16 ∗ Blk (cY c) 0 16 ∗ Blk (cC c) 4 16 ∗ Blk (cD c) 3 16 ∗ (cred (tallyAt (cellAt c barS) 1 2) : sProp 𝕄)) := by
  have e : (O₀ : Dev nD → CellTallies nD τ sig ℕ) = fun d => ((((OX d 0 + OY d 0) + OC d 4) + OD d 3) + tallyAt (cellAt (yp d) barS) 1 1) + tallyAt (cellAt (xp d) barS) 1 1 := rfl
  rw [e, Pipeline.launchCred_add, Pipeline.launchCred_add, Pipeline.launchCred_add, Pipeline.launchCred_add, Pipeline.launchCred_add]
  iintro ⟨⟨⟨⟨⟨HX, HY⟩, HC⟩, HD⟩, Hb⟩, Hb'⟩
  isplitl [HX]; · iapply (credX c); iexact HX
  isplitl [HY]; · iapply (credY c); iexact HY
  isplitl [HC]; · iapply (credC c); iexact HC
  isplitl [HD]; · iapply (credD c); iexact HD
  ihave Hb := (Pipeline.launchCred_tallyAt barS yp yp yp_yp yp_yp 1 1 c) $$ Hb
  ihave Hb' := (Pipeline.launchCred_tallyAt barS xp xp xp_xp xp_xp 1 1 c) $$ Hb'
  rw [show (tallyAt (cellAt c barS) 1 2 : CellTallies nD τ sig ℕ) = tallyAt (cellAt c barS) 1 1 + tallyAt (cellAt c barS) 1 1 from (tallyAt_add _ _ 1 1).symm]
  iapply (cred_add _ _).2
  isplitl [Hb] <;> iassumption

end

end Cert.KIProof

end
-- ==== Proof.Deal.lean ====
/- The invariants allocated at launch, and their tokens dealt to the devices that use them. -/
module

public import proofs.«01_k».proof.Proof.Cells
public import Idealize.ShloMosaic.Lib.SparseCore.Launch

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Splitting and pairing families over blocks -/

theorem blk_split (Φ : ℕ → sProp 𝕄) {a b e : ℕ} (h : a ≤ b) (h' : b ≤ e) : Blk Φ a e ⊢ iprop(Blk Φ a b ∗ Blk Φ b e) := by
  show bigSep _ _ ⊢ _
  rw [← Finset.Ico_union_Ico_eq_Ico h h', bigSep_union (Finset.Ico_disjoint_Ico_consecutive a b e)]
  exact .rfl
theorem blk_zip (Φ Ψ : ℕ → sProp 𝕄) (a e : ℕ) : iprop(Blk Φ a e ∗ Blk Ψ a e) ⊢ Blk (fun b => iprop(Φ b ∗ Ψ b)) a e :=
  Entails.of_eq (bigSep_sep' _ _ _).symm
theorem blk_with {R : sProp 𝕄} [BI.Persistent R] {Φ Ψ : ℕ → sProp 𝕄} (a e : ℕ) (h : ∀ b, a ≤ b ∧ b < e → iprop(R ∗ Φ b) ⊢ Ψ b) :
    iprop(R ∗ Blk Φ a e) ⊢ Blk Ψ a e :=
  BI.bigSep_with_persistent fun b hb => h b (Finset.mem_Ico.mp hb)

/-! ## The cells and their duty tokens -/

theorem cellAt_injective : Function.Injective (fun x : Dev nD × Fin 20 => (cellAt x.1 (csem x.2) : GSem nD τ sig)) := by
  rintro ⟨c, k⟩ ⟨c', k'⟩ h
  have h1 : c = c' := congrArg (fun g : GSem nD τ sig => g.1.1) h
  have h2 : csem k = csem k' := congrArg Prod.snd h
  have inj : ∀ i j : Fin 20, csem i = csem j → i = j := by decide +kernel
  rw [h1, inj k k' h2]
def ringCells : Finset (GSem nD τ sig) := Finset.univ.map ⟨_, cellAt_injective⟩

/-- The duty tokens of a device's cells: eight kinds, one for each block. -/
def tokOf (x : Dev nD × Fin 8 × ℕ) : GSem nD τ sig × ℕ × ℕ := match x.2.1 with
  | 0 => (cellAt x.1 (xsS x.2.2), x.2.2 / 4, 0)
  | 1 => (cellAt x.1 (xrS x.2.2), x.2.2 / 4, 0)
  | 2 => (cellAt x.1 (ysS x.2.2), x.2.2 / 3, 0)
  | 3 => (cellAt x.1 (yrS x.2.2), x.2.2 / 3, 0)
  | 4 => (cellAt x.1 (lsS x.2.2), x.2.2 / 3, 0)
  | 5 => (cellAt x.1 xcS, 0, x.2.2)
  | 6 => (cellAt x.1 ycS, 0, x.2.2)
  | 7 => (cellAt x.1 barS, 0, x.2.2)

/-- What kind of token, and for which block, is read off its cell, round and duty. -/
def kindOf (x : GSem nD τ sig × ℕ × ℕ) : Dev nD × Fin 8 × ℕ := (x.1.1.1, match role x.1.2 with
  | .xs k => (0, 4 * x.2.1 + k)
  | .xr k => (1, 4 * x.2.1 + k)
  | .ys k => (2, 3 * x.2.1 + k)
  | .yr k => (3, 3 * x.2.1 + k)
  | .ls k => (4, 3 * x.2.1 + k)
  | .xc => (5, x.2.2)
  | .yc => (6, x.2.2)
  | _ => (7, x.2.2))
theorem kindOf_tokOf (x : Dev nD × Fin 8 × ℕ) : kindOf (tokOf x) = x := by
  obtain ⟨c, k, b⟩ := x
  fin_cases k <;> unfold kindOf tokOf <;> refine Prod.ext rfl ?_ <;> simp only [cellAt, role_xs, role_xr, role_ys, role_yr, role_ls]
  · exact Prod.ext rfl (Nat.div_add_mod b 4)
  · exact Prod.ext rfl (Nat.div_add_mod b 4)
  · exact Prod.ext rfl (Nat.div_add_mod b 3)
  · exact Prod.ext rfl (Nat.div_add_mod b 3)
  · exact Prod.ext rfl (Nat.div_add_mod b 3)
  · rfl
  · rfl
  · rfl
theorem tokOf_injective : Function.Injective tokOf := Function.LeftInverse.injective kindOf_tokOf
def ringToks : Finset (GSem nD τ sig × ℕ × ℕ) := (Finset.univ ×ˢ Finset.univ ×ˢ Finset.Ico 0 16).map ⟨tokOf, tokOf_injective⟩

/-- A duty token of device `c`'s cells. -/
def tk (c : Dev nD) (k : Fin 8) (b : ℕ) : sProp 𝕄 := dutyTok ER (tokOf (c, k, b)).1 (tokOf (c, k, b)).2.1 (tokOf (c, k, b)).2.2

/-- The launch's ghost element. -/
def u₀ : UU :=
  (initOf (Pipeline.cells cfgs cellOf_inj) (Pipeline.launchToks cfgs cellOf_inj), (initOf ringCells ringToks, Release.initSlots keys 1))

/-- The release records' ghost element, kept with device 0 until it is opened. -/
def Z0 (c : Dev nD) : sProp 𝕄 := if c = 0 then own (ES (Release.initSlots keys 1)) else iprop(emp)

/-- What the launch element deals device `c`. -/
def G (c : Dev nD) : sProp 𝕄 :=
  iprop((bigSep Finset.univ fun k : Fin 20 => roundState ER (Rd m) (cellAt c (csem k)) 0)
    ∗ (bigSep Finset.univ fun k : Fin 20 => reached ER (cellAt c (csem k)) 0)
    ∗ (bigSep Finset.univ fun k : Fin 20 => atPos ER (cellAt c (csem k)) 0 ∅ 0)
    ∗ (bigSep Finset.univ fun k : Fin 8 => Blk (tk c k) 0 16) ∗ Z0 c)

theorem Z0_intro : own (ES (Release.initSlots keys 1)) ⊢ (bigSep Finset.univ fun c : Dev nD => (Z0 c : sProp 𝕄)) := by
  have h : (emp : sProp 𝕄) ⊢ bigSep (Finset.univ.erase (0 : Dev nD)) fun c => Z0 c :=
    (Entails.of_eq (bigSep_emp_const _).symm).trans (bigSep_mono fun c hc => by unfold Z0; rw [if_neg (Finset.ne_of_mem_erase hc)]; exact (show (emp : sProp 𝕄) ⊢ emp from .rfl))
  rw [bigSep_univ_at _ (0 : Dev nD)]
  iintro H
  isplitl [H]
  · unfold Z0; rw [if_pos rfl]; iexact H
  iapply h
  iempintro

theorem Z0_zero : (Z0 (0 : Dev nD) : sProp 𝕄) ⊢ own (ES (Release.initSlots keys 1)) := by
  unfold Z0; rw [if_pos rfl]

theorem fund : iprop(own (ER (initOf ringCells ringToks)) ∗ own (ES (Release.initSlots keys 1))) ⊢ (|==> bigSep Finset.univ (G m) : sProp 𝕄) := by
  have hX (Φ : GSem nD τ sig → sProp 𝕄) : bigSep ringCells Φ = bigSep Finset.univ fun c : Dev nD => bigSep Finset.univ fun k : Fin 20 => Φ (cellAt c (csem k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Fin 8 => Blk (tk c k) 0 16 := by
    unfold ringToks; rw [bigSep_map, SparseCore.bigSep_product]
    exact bigSep_congr fun c _ => SparseCore.bigSep_product _ _ _
  iintro ⟨HX, HS⟩
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave HS := Z0_intro $$ HS
  unfold G; simp only [bigSep_sep']
  isplitl [Hst]; · iexact Hst
  isplitl [Hr]; · iexact Hr
  isplitl [Hat]; · iexact Hat
  isplitl [Htok] <;> iassumption

/-! ## The invariants allocated and the tokens dealt to the devices that use them -/

/-- What is the device's own; -/
def Own (c : Dev nD) : sProp 𝕄 :=
  iprop(Blk (tk c 0) 0 16 ∗ Blk (tk c 2) 0 16 ∗ Blk (tk c 4) 0 16)
/-- what its x partner uses; -/
def ForX (c : Dev nD) : sProp 𝕄 := iprop(Blk (tk c 1) 0 16 ∗ Blk (tk c 5) 0 16 ∗ tk c 7 0)
/-- and what its y partner uses. -/
def ForY (c : Dev nD) : sProp 𝕄 := iprop(Blk (tk c 3) 0 16 ∗ Blk (tk c 6) 0 16 ∗ tk c 7 1)

theorem toks_split (c : Dev nD) : (bigSep Finset.univ fun k : Fin 8 => Blk (tk c k) 0 16 : sProp 𝕄) ⊢ iprop(Own c ∗ ForX c ∗ ForY c) := by
  rw [bigSep_univ_eq_bigSepL [0, 1, 2, 3, 4, 5, 6, 7] (by decide) (by decide)]
  show iprop(Blk (tk c 0) 0 16 ∗ Blk (tk c 1) 0 16 ∗ Blk (tk c 2) 0 16 ∗ Blk (tk c 3) 0 16 ∗ Blk (tk c 4) 0 16 ∗ Blk (tk c 5) 0 16
    ∗ Blk (tk c 6) 0 16 ∗ Blk (tk c 7) 0 16) ⊢ _
  unfold Own ForX ForY
  iintro ⟨H0, H1, H2, H3, H4, H5, H6, H7⟩
  ihave H7 := (blk_take (tk c 7) (by omega : 0 < 16)) $$ H7
  icases H7 with ⟨H7, H⟩
  ihave H := (blk_take (tk c 7) (by omega : 0 + 1 < 16)) $$ H
  icases H with ⟨H8, -⟩
  isplitl [H0 H2 H4]; · isplitl [H0]; · iexact H0
                        isplitl [H2] <;> iassumption
  isplitl [H1 H5 H7]; · isplitl [H1]; · iexact H1
                        isplitl [H5] <;> iassumption
  isplitl [H3]; · iexact H3
  isplitl [H6] <;> iassumption

/-- The release records' tokens of device `c`'s slots of one kind: its own readings, and the writings. -/
def Rdr (c : Dev nD) (x : Bool) : sProp 𝕄 := Blk (fun b => Release.readerAt ES (c, x, b) 0) 0 16
def Wtr (c : Dev nD) (x : Bool) : sProp 𝕄 := Blk (fun b => Release.writeTok ES (c, x, b) 1) 0 16

theorem keys_eq (Φ : Key → sProp 𝕄) :
    bigSep keys Φ = bigSep Finset.univ fun c : Dev nD => iprop(Blk (fun b => Φ (c, true, b)) 0 16 ∗ Blk (fun b => Φ (c, false, b)) 0 16) := by
  unfold keys
  rw [SparseCore.bigSep_product]
  refine bigSep_congr fun c _ => ?_
  rw [SparseCore.bigSep_product, bigSep_univ_eq_bigSepL [true, false] (by decide) (by decide), Finset.range_eq_Ico]
  rfl

theorem slots_alloc : own (ES (Release.initSlots keys 1))
    ⊢ (|={Set.univ}=> iprop(bigSep keys sInv ∗ (bigSep Finset.univ fun c : Dev nD => iprop(Rdr c true ∗ Rdr c false))
        ∗ (bigSep Finset.univ fun c : Dev nD => Wtr c true) ∗ bigSep Finset.univ fun c : Dev nD => Wtr c false) : sProp 𝕄) := by
  iintro H
  imod (Release.slots_init ES keys 1 (FrK (F := F)) (Es := Set.univ)) $$ H with ⟨%ιs, -, HI, HR, HW⟩
  imodintro
  isplitl [HI]
  · iapply (show bigSep keys (fun k => Release.slotInv ES (ιs k) k (FrK k)) ⊢ (bigSep keys sInv : sProp 𝕄) from
      bigSep_mono fun k _ => exists_intro (Φ := fun ι => Release.slotInv ES ι k (FrK k)) (ιs k))
    iexact HI
  ihave HR := (Entails.of_eq (keys_eq fun k => (Release.readerAt ES k 0 : sProp 𝕄))) $$ HR
  isplitl [HR]; · iexact HR
  ihave HW := (Entails.of_eq (SparseCore.bigSep_product keys (Finset.range 1) fun x => (Release.writeTok ES x.1 (x.2 + 1) : sProp 𝕄))) $$ HW
  ihave HW := (show bigSep keys (fun k => bigSep (Finset.range 1) fun t => (Release.writeTok ES k (t + 1) : sProp 𝕄)) ⊢ bigSep keys fun k => Release.writeTok ES k 1 from
    bigSep_mono fun k _ => bigSep_elim (i := 0) (Finset.mem_range.mpr (by omega))) $$ HW
  ihave HW := (Entails.of_eq (keys_eq fun k => (Release.writeTok ES k 1 : sProp 𝕄))) $$ HW
  iapply (show (bigSep Finset.univ fun c : Dev nD => iprop(Wtr c true ∗ Wtr c false) : sProp 𝕄) ⊢ _ from
    Entails.of_eq (bigSep_sep' Finset.univ (fun c : Dev nD => (Wtr c true : sProp 𝕄)) fun c => Wtr c false))
  iexact HW

/-- What every device knows, the indices' order apart. -/
def Know : sProp 𝕄 :=
  iprop(bigSep Finset.univ (fun x : Dev nD × Fin 20 => iprop(cInv m (cellAt x.1 (csem x.2)) ∗ reached ER (cellAt x.1 (csem x.2)) 0)) ∗ bigSep keys sInv)
instance Know_persistent : BI.Persistent (Know (F := F) m) := by unfold Know; infer_instance

/-- What is dealt to device `c`: its positions, its own tokens and those it uses of its partners. -/
def Deal (c : Dev nD) : sProp 𝕄 :=
  iprop(perSem (fun s => atPos ER (cellAt c s) 0 ∅ 0) ∗ Own c ∗ ForX (xp c) ∗ ForY (yp c) ∗ (Rdr c true ∗ Rdr c false) ∗ Wtr (xp c) true ∗ Wtr (yp c) false)

/-- What the global step makes of what the devices hold. -/
def G' (c : Dev nD) : sProp 𝕄 := iprop(Know m ∗ Deal c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Fin 20 => iprop(cInv m (cellAt c (csem k)) ∗ reached ER (cellAt c (csem k)) 0))
          ∗ perSem (fun s => atPos ER (cellAt c s) 0 ∅ 0) ∗ (Own c ∗ ForX c ∗ ForY c) ∗ Z0 c) := by
  unfold G
  iintro ⟨Hos, Hus, Hst, Hr, Hat, Htok, HZ⟩
  ihave Hv := (Entails.of_eq ((sems_eq (F := F) c).trans (perSem_eq _).symm)) $$ [Hos Hus]
  · isplitl [Hos] <;> iassumption
  imod (show iprop((bigSep Finset.univ fun k : Fin 20 => semVal (cellAt c (csem k)) 0) ∗ bigSep Finset.univ fun k : Fin 20 => roundState ER (Rd m) (cellAt c (csem k)) 0)
      ⊢ (|={Set.univ}=> bigSep Finset.univ fun k : Fin 20 => cInv m (cellAt c (csem k)) : sProp 𝕄) from by
        rw [← bigSep_sep']
        exact (bigSep_mono fun k _ => (Rounds.body_intro ER (Rd m) (cellAt c (csem k))).trans inv_alloc).trans (bigSep_fupd _ _)) $$ [Hv Hst] with Hinv
  · isplitl [Hv] <;> iassumption
  imodintro
  rw [bigSep_sep']
  isplitl [Hinv Hr]; · isplitl [Hinv] <;> iassumption
  isplitl [Hat]
  · iapply (Entails.of_eq (perSem_eq (F := F) fun s => atPos ER (cellAt c s) 0 ∅ 0))
    iexact Hat
  isplitl [Htok]
  · iapply (toks_split (F := F) c); iexact Htok
  iexact HZ

theorem cores_alloc : (bigSep Finset.univ fun c : Dev nD => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ fun c : Dev nD => iprop((bigSep Finset.univ fun k : Fin 20 => iprop(cInv m (cellAt c (csem k)) ∗ reached ER (cellAt c (csem k)) 0))
          ∗ perSem (fun s => atPos ER (cellAt c s) 0 ∅ 0) ∗ (Own c ∗ ForX c ∗ ForY c) ∗ Z0 c) :=
  (bigSep_mono fun c _ => core_alloc m c).trans (bigSep_fupd _ _)

theorem glob : (bigSep Finset.univ fun c : Dev nD => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  iintro H
  imod (cores_alloc m) $$ H with H
  simp only [bigSep_sep']
  icases H with ⟨⟨HI, HR⟩, Hat, ⟨HO, HX, HY⟩, HZ⟩
  ihave HZ := (show (bigSep Finset.univ fun c : Dev nD => (Z0 c : sProp 𝕄)) ⊢ own (ES (Release.initSlots keys 1)) from
    (bigSep_elim (Finset.mem_univ (0 : Dev nD))).trans (Z0_zero (F := F))) $$ HZ
  imod slots_alloc $$ HZ with ⟨HS, HRd, HWx, HWy⟩
  imodintro
  ihave HX := (Entails.of_eq (bigSep_univ_equiv xpE (fun c : Dev nD => (ForX c : sProp 𝕄)))) $$ HX
  ihave HY := (Entails.of_eq (bigSep_univ_equiv ypE (fun c : Dev nD => (ForY c : sProp 𝕄)))) $$ HY
  ihave HWx := (Entails.of_eq (bigSep_univ_equiv xpE (fun c : Dev nD => (Wtr c true : sProp 𝕄)))) $$ HWx
  ihave HWy := (Entails.of_eq (bigSep_univ_equiv ypE (fun c : Dev nD => (Wtr c false : sProp 𝕄)))) $$ HWy
  iapply (show iprop(Know m ∗ bigSep Finset.univ (fun c => Deal c)) ⊢ bigSep Finset.univ (G' (F := F) m) from
    BI.bigSep_with_persistent fun c _ => .rfl)
  isplitl [HI HR HS]
  · unfold Know
    isplitl [HI HR]
    · rw [bigSep_univ_prod]; simp only [bigSep_sep']
      isplitl [HI] <;> iassumption
    iexact HS
  unfold Deal; simp only [bigSep_sep']
  isplitl [Hat]; · iexact Hat
  isplitl [HO]; · iexact HO
  isplitl [HX]; · iexact HX
  isplitl [HY]; · iexact HY
  isplitl [HRd]; · iexact HRd
  isplitl [HWx]; · iexact HWx
  iexact HWy

end Cert.KIProof

end
-- ==== Proof.Slots.lean ====
/- The scratch buffers are their slots. -/
module

public import proofs.«01_k».proof.Proof.State

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Slots and whole buffers -/

section

variable {T : Type} [DecidableEq T] {ℓ : Loc nD τ sig}

omit [DecidableEq T] in
theorem slot_of (K : Finset (Idx ℓ)) (f : Buf (Elt F) ℓ) : (ℓ ↦[K]{fullShare} f : sProp 𝕄) ⊢ (Release.slot ℓ K : sProp 𝕄) :=
  exists_intro (Φ := fun g : Buf (Elt F) ℓ => (ℓ ↦[K]{fullShare} g : sProp 𝕄)) f
/-- A whole buffer is its slots, when they tile it. -/
theorem slots_split (S : Finset T) (K : T → Finset (Idx ℓ)) (hd : ∀ t ∈ S, ∀ t' ∈ S, t ≠ t' → Disjoint (K t) (K t')) (hc : S.biUnion K = Finset.univ) :
    (iprop(∃ f : Buf (Elt F) ℓ, ℓ ↦{fullShare} f) : sProp 𝕄) ⊢ bigSep S fun t => Release.slot ℓ (K t) := by
  refine exists_elim fun f => (Entails.of_eq (show ((ℓ ↦{fullShare} f : sProp 𝕄)) = bigSep S (fun t => (ℓ ↦[K t]{fullShare} f : sProp 𝕄)) by rw [← hc, pointsTo_biUnion S K hd])).trans ?_
  exact bigSep_mono fun t _ => slot_of (K t) f
theorem slots_whole (S : Finset T) (t₀ : T) (K : T → Finset (Idx ℓ)) (hd : ∀ t ∈ S, ∀ t' ∈ S, t ≠ t' → Disjoint (K t) (K t')) (hc : S.biUnion K = Finset.univ) :
    (bigSep S fun t => (Release.slot ℓ (K t) : sProp 𝕄)) ⊢ iprop(∃ f : Buf (Elt F) ℓ, ℓ ↦{fullShare} f) := by
  unfold Release.slot
  iintro H
  ihave H := (BI.bigSep_exists_pi S (fun (t : T) (f : Buf (Elt F) ℓ) => (ℓ ↦[K t]{fullShare} f : sProp 𝕄))) $$ H
  icases H with ⟨%fs, H⟩
  ihave H := (pointsTo_biUnion_join S K fs (fs t₀) hd) $$ H
  icases H with ⟨%g, -, H⟩
  iexists g
  rw [hc]
  iexact H

end

/-! ## The three scratch buffers -/

theorem mem_x (b : ℕ) (y : S4x256x2048.Idx) : y ∈ (xM b).view.set ↔ (y 0).val = b % 4 := by
  rw [Memref.set_view_squeeze]
  refine (iff_of_eq (congrArg (fun K : Finset cc0_scratch0.ty.Idx => y ∈ K) (View.set_slice_whole cc0_scratch0 _))).trans (Rect.mem_set_unit.trans ⟨fun h => ?_, fun h a => ?_⟩)
  · have := h 0
    change b % 4 ≤ (y 0).val ∧ (y 0).val < b % 4 + 1 at this
    omega
  · fin_cases a
    · change b % 4 ≤ (y 0).val ∧ (y 0).val < b % 4 + 1
      omega
    · exact ⟨Nat.zero_le _, lt_of_lt_of_eq (y 1).isLt (Nat.zero_add _).symm⟩
    · exact ⟨Nat.zero_le _, lt_of_lt_of_eq (y 2).isLt (Nat.zero_add _).symm⟩
theorem mem_y (b : ℕ) (y : S3x256x2048.Idx) : y ∈ (yM b).view.set ↔ (y 0).val = b % 3 := by
  rw [Memref.set_view_squeeze]
  refine (iff_of_eq (congrArg (fun K : Finset cc0_scratch1.ty.Idx => y ∈ K) (View.set_slice_whole cc0_scratch1 _))).trans (Rect.mem_set_unit.trans ⟨fun h => ?_, fun h a => ?_⟩)
  · have := h 0
    change b % 3 ≤ (y 0).val ∧ (y 0).val < b % 3 + 1 at this
    omega
  · fin_cases a
    · change b % 3 ≤ (y 0).val ∧ (y 0).val < b % 3 + 1
      omega
    · exact ⟨Nat.zero_le _, lt_of_lt_of_eq (y 1).isLt (Nat.zero_add _).symm⟩
    · exact ⟨Nat.zero_le _, lt_of_lt_of_eq (y 2).isLt (Nat.zero_add _).symm⟩
theorem mem_l (b : ℕ) (y : S3x512x2048.Idx) : y ∈ (lM b).view.set ↔ (y 0).val = b % 3 := by
  rw [Memref.set_view_squeeze]
  refine (iff_of_eq (congrArg (fun K : Finset cc0_scratch2.ty.Idx => y ∈ K) (View.set_slice_whole cc0_scratch2 _))).trans (Rect.mem_set_unit.trans ⟨fun h => ?_, fun h a => ?_⟩)
  · have := h 0
    change b % 3 ≤ (y 0).val ∧ (y 0).val < b % 3 + 1 at this
    omega
  · fin_cases a
    · change b % 3 ≤ (y 0).val ∧ (y 0).val < b % 3 + 1
      omega
    · exact ⟨Nat.zero_le _, lt_of_lt_of_eq (y 1).isLt (Nat.zero_add _).symm⟩
    · exact ⟨Nat.zero_le _, lt_of_lt_of_eq (y 2).isLt (Nat.zero_add _).symm⟩

/-- Slots told apart by their first coordinate, `n` of them in a row, tile their buffer. -/
theorem tile {sh : Shape} (y0 : sh.Idx → ℕ) (n a : ℕ) (hn : 0 < n) (hy : ∀ y, y0 y < n) (K : ℕ → Finset sh.Idx) (hK : ∀ b y, y ∈ K b ↔ y0 y = b % n) :
    (∀ t ∈ Finset.Ico a (a + n), ∀ t' ∈ Finset.Ico a (a + n), t ≠ t' → Disjoint (K t) (K t')) ∧ (Finset.Ico a (a + n)).biUnion K = Finset.univ := by
  constructor
  · intro t ht t' ht' hne
    rw [Finset.mem_Ico] at ht ht'
    refine Finset.disjoint_left.mpr fun y h h' => hne ?_
    rw [hK] at h h'
    have e : t % n = t' % n := h.symm.trans h'
    have d := Nat.div_add_mod t n
    have d' := Nat.div_add_mod t' n
    rcases Nat.lt_trichotomy (t / n) (t' / n) with hl | hl | hl
    · have := Nat.mul_le_mul_left n (Nat.succ_le_of_lt hl)
      rw [Nat.mul_succ] at this
      omega
    · rw [hl] at d
      omega
    · have := Nat.mul_le_mul_left n (Nat.succ_le_of_lt hl)
      rw [Nat.mul_succ] at this
      omega
  · refine Finset.eq_univ_of_forall fun y => ?_
    rw [Finset.mem_biUnion]
    have h1 := Nat.mod_lt a hn
    have h2 := hy y
    have h3 := Nat.div_add_mod a n
    by_cases hlt : a % n ≤ y0 y
    · refine ⟨a + (y0 y - a % n), Finset.mem_Ico.mpr ⟨by omega, by omega⟩, (hK _ _).mpr ?_⟩
      rw [show a + (y0 y - a % n) = y0 y + n * (a / n) by omega, Nat.add_mul_mod_self_left, Nat.mod_eq_of_lt h2]
    · refine ⟨a + (n + y0 y - a % n), Finset.mem_Ico.mpr ⟨by omega, by omega⟩, (hK _ _).mpr ?_⟩
      rw [show a + (n + y0 y - a % n) = y0 y + n * (a / n + 1) by rw [Nat.mul_add]; omega, Nat.add_mul_mod_self_left, Nat.mod_eq_of_lt h2]

section

variable (c : Dev nD)

theorem tile_x (a : ℕ) : (∀ t ∈ Finset.Ico a (a + 4), ∀ t' ∈ Finset.Ico a (a + 4), t ≠ t' → Disjoint (xM t).view.set (xM t').view.set) ∧ Finset.biUnion (β := Shape.Idx S4x256x2048) (Finset.Ico a (a + 4)) (fun b => (xM b).view.set) = Finset.univ :=
  tile (sh := S4x256x2048) (fun y => (y 0).val) 4 a (by decide) (fun y => (y 0).isLt) (fun b => (xM b).view.set) mem_x
theorem tile_y (a : ℕ) : (∀ t ∈ Finset.Ico a (a + 3), ∀ t' ∈ Finset.Ico a (a + 3), t ≠ t' → Disjoint (yM t).view.set (yM t').view.set) ∧ Finset.biUnion (β := Shape.Idx S3x256x2048) (Finset.Ico a (a + 3)) (fun b => (yM b).view.set) = Finset.univ :=
  tile (sh := S3x256x2048) (fun y => (y 0).val) 3 a (by decide) (fun y => (y 0).isLt) (fun b => (yM b).view.set) mem_y
theorem tile_l (a : ℕ) : (∀ t ∈ Finset.Ico a (a + 3), ∀ t' ∈ Finset.Ico a (a + 3), t ≠ t' → Disjoint (lM t).view.set (lM t').view.set) ∧ Finset.biUnion (β := Shape.Idx S3x512x2048) (Finset.Ico a (a + 3)) (fun b => (lM b).view.set) = Finset.univ :=
  tile (sh := S3x512x2048) (fun y => (y 0).val) 3 a (by decide) (fun y => (y 0).isLt) (fun b => (lM b).view.set) mem_l

theorem split_x : (iprop(∃ f : Buf (Elt F) ((c : Thread nD τ).loc cc0_scratch0), ((c : Thread nD τ).loc cc0_scratch0) ↦{fullShare} f) : sProp 𝕄) ⊢ Blk (FrX c) 0 4 :=
  slots_split (ℓ := (c : Thread nD τ).loc cc0_scratch0) _ _ (tile_x 0).1 (tile_x 0).2
theorem split_y : (iprop(∃ f : Buf (Elt F) ((c : Thread nD τ).loc cc0_scratch1), ((c : Thread nD τ).loc cc0_scratch1) ↦{fullShare} f) : sProp 𝕄) ⊢ Blk (FrY c) 0 3 :=
  slots_split (ℓ := (c : Thread nD τ).loc cc0_scratch1) _ _ (tile_y 0).1 (tile_y 0).2
theorem split_l : (iprop(∃ f : Buf (Elt F) ((c : Thread nD τ).loc cc0_scratch2), ((c : Thread nD τ).loc cc0_scratch2) ↦{fullShare} f) : sProp 𝕄) ⊢ Blk (FrL c) 0 3 :=
  slots_split (ℓ := (c : Thread nD τ).loc cc0_scratch2) _ _ (tile_l 0).1 (tile_l 0).2
theorem whole_x : Blk (FrX c) 16 20 ⊢ (iprop(∃ f : Buf (Elt F) ((c : Thread nD τ).loc cc0_scratch0), ((c : Thread nD τ).loc cc0_scratch0) ↦{fullShare} f) : sProp 𝕄) :=
  slots_whole (ℓ := (c : Thread nD τ).loc cc0_scratch0) _ 16 _ (tile_x 16).1 (tile_x 16).2
theorem whole_y : Blk (FrY c) 16 19 ⊢ (iprop(∃ f : Buf (Elt F) ((c : Thread nD τ).loc cc0_scratch1), ((c : Thread nD τ).loc cc0_scratch1) ↦{fullShare} f) : sProp 𝕄) :=
  slots_whole (ℓ := (c : Thread nD τ).loc cc0_scratch1) _ 16 _ (tile_y 16).1 (tile_y 16).2
theorem whole_l : Blk (FrL c) 16 19 ⊢ (iprop(∃ f : Buf (Elt F) ((c : Thread nD τ).loc cc0_scratch2), ((c : Thread nD τ).loc cc0_scratch2) ↦{fullShare} f) : sProp 𝕄) :=
  slots_whole (ℓ := (c : Thread nD τ).loc cc0_scratch2) _ 16 _ (tile_l 16).1 (tile_l 16).2

end

end Cert.KIProof

end
-- ==== Proof.Ready.lean ====
/- From what the launch deals to the state before the first step. -/
module

public import proofs.«01_k».proof.Proof.Deal
public import proofs.«01_k».proof.Proof.Slots

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable (ρ : Dev nD → PrngReg) (c : Dev nD)

/-! ## From what the launch deals to the state before the first step -/

/-- What device `c` brings into the kernel besides what everyone knows. -/
def Ready : sProp 𝕄 :=
  iprop(Deal c ∗ (Blk (cX c) 0 16 ∗ Blk (cY c) 0 16 ∗ Blk (cC c) 4 16 ∗ Blk (cD c) 3 16 ∗ cred (tallyAt (cellAt c barS) 1 2)) ∗ Arg m c)

theorem start_aX : iprop(Blk (tk c 0) 0 16 ∗ Blk (tk (xp c) 1) 0 16 ∗ Wtr (xp c) true) ⊢ (Blk (aX c) 0 16 : sProp 𝕄) :=
  (sep_mono_right (blk_zip _ _ 0 16)).trans (blk_zip _ _ 0 16)
theorem start_aY : iprop(Blk (tk c 2) 0 16 ∗ Blk (tk (yp c) 3) 0 16 ∗ Wtr (yp c) false) ⊢ (Blk (aY c) 0 16 : sProp 𝕄) :=
  (sep_mono_right (blk_zip _ _ 0 16)).trans (blk_zip _ _ 0 16)

theorem start_pX : iprop(Ctx m ∗ Blk (fun b => atPos ER (cellAt c (xsS b)) 0 ∅ 0) 0 4 ∗ Blk (fun b => atPos ER (cellAt c (xrS b)) 0 ∅ 0) 0 4)
    ⊢ Blk (pX (F := F) c) 0 4 := by
  refine (sep_mono_right (blk_zip _ _ 0 4)).trans (blk_with 0 4 fun b hb => ?_)
  unfold pX
  rw [Nat.div_eq_of_lt hb.2]
  iintro ⟨#HC, Ha, Hb⟩
  isplitl [Ha]
  · isplitl [Ha]; · iexact Ha
    iapply (ctx_reached m c ⟨b % 4, by omega⟩ (csem_dma (b % 4) (by omega))); iexact HC
  isplitl [Hb]; · iexact Hb
  iapply (ctx_reached m c ⟨4 + b % 4, by omega⟩ ((csem_dma (4 + b % 4) (by omega)).trans (by unfold xrS; congr 2; omega))); iexact HC
theorem start_pY : iprop(Ctx m ∗ Blk (fun b => atPos ER (cellAt c (ysS b)) 0 ∅ 0) 0 3 ∗ Blk (fun b => atPos ER (cellAt c (yrS b)) 0 ∅ 0) 0 3)
    ⊢ Blk (pY (F := F) c) 0 3 := by
  refine (sep_mono_right (blk_zip _ _ 0 3)).trans (blk_with 0 3 fun b hb => ?_)
  unfold pY
  rw [Nat.div_eq_of_lt hb.2]
  iintro ⟨#HC, Ha, Hb⟩
  isplitl [Ha]
  · isplitl [Ha]; · iexact Ha
    iapply (ctx_reached m c ⟨8 + b % 3, by omega⟩ ((csem_dma (8 + b % 3) (by omega)).trans (by unfold ysS; congr 2; omega))); iexact HC
  isplitl [Hb]; · iexact Hb
  iapply (ctx_reached m c ⟨11 + b % 3, by omega⟩ ((csem_dma (11 + b % 3) (by omega)).trans (by unfold yrS; congr 2; omega))); iexact HC
theorem start_pL : iprop(Ctx m ∗ Blk (fun b => atPos ER (cellAt c (lsS b)) 0 ∅ 0) 0 3) ⊢ Blk (pL (F := F) c) 0 3 := by
  refine blk_with 0 3 fun b hb => ?_
  unfold pL
  rw [Nat.div_eq_of_lt hb.2]
  iintro ⟨#HC, Ha⟩
  isplitl [Ha]; · iexact Ha
  iapply (ctx_reached m c ⟨14 + b % 3, by omega⟩ ((csem_dma (14 + b % 3) (by omega)).trans (by unfold lsS; congr 2; omega))); iexact HC

/-- The slots held at first, their readings' rights beside them, and the rights to hand slots back later. -/
theorem start_tX : iprop(Rdr c true ∗ Blk (tk (xp c) 5) 0 16 ∗ Blk (FrX c) 0 4)
    ⊢ iprop(Blk (tX c) 4 16 ∗ (Blk (fun b => iprop(Release.readerAt ES (c, true, b) 0 ∗ FrX c b)) 0 4 : sProp 𝕄)) := by
  unfold Rdr
  iintro ⟨HR, HT, HF⟩
  ihave HR := (blk_split _ (by omega : 0 ≤ 4) (by omega : 4 ≤ 16)) $$ HR
  icases HR with ⟨HR, HR'⟩
  ihave HT := (blk_split _ (by omega : 0 ≤ 4) (by omega : 4 ≤ 16)) $$ HT
  icases HT with ⟨-, HT⟩
  isplitl [HR' HT]
  · iapply (show iprop(Blk (fun b => Release.readerAt ES (c, true, b) 0) 4 16 ∗ Blk (tk (xp c) 5) 4 16) ⊢ (Blk (tX c) 4 16 : sProp 𝕄) from blk_zip _ _ 4 16)
    isplitl [HR'] <;> iassumption
  iapply (blk_zip (fun b => Release.readerAt ES (c, true, b) 0) (FrX c) 0 4)
  isplitl [HR] <;> iassumption
theorem start_tY : iprop(Rdr c false ∗ Blk (tk (yp c) 6) 0 16 ∗ Blk (FrY c) 0 3)
    ⊢ iprop(Blk (tY c) 3 16 ∗ (Blk (fun b => iprop(Release.readerAt ES (c, false, b) 0 ∗ FrY c b)) 0 3 : sProp 𝕄)) := by
  unfold Rdr
  iintro ⟨HR, HT, HF⟩
  ihave HR := (blk_split _ (by omega : 0 ≤ 3) (by omega : 3 ≤ 16)) $$ HR
  icases HR with ⟨HR, HR'⟩
  ihave HT := (blk_split _ (by omega : 0 ≤ 3) (by omega : 3 ≤ 16)) $$ HT
  icases HT with ⟨-, HT⟩
  isplitl [HR' HT]
  · iapply (show iprop(Blk (fun b => Release.readerAt ES (c, false, b) 0) 3 16 ∗ Blk (tk (yp c) 6) 3 16) ⊢ (Blk (tY c) 3 16 : sProp 𝕄) from blk_zip _ _ 3 16)
    isplitl [HR'] <;> iassumption
  iapply (blk_zip (fun b => Release.readerAt ES (c, false, b) 0) (FrY c) 0 3)
  isplitl [HR] <;> iassumption

theorem start_QX : (atPos ER (cellAt c xcS) 0 ∅ 0 : sProp 𝕄) ⊢ QX m c 0 := by
  unfold QX
  iintro H
  iexists ∅
  isplitr; · ipureintro; exact ⟨Finset.empty_subset _, Nat.zero_le _⟩
  isplitl [H]; · iexact H
  rw [bigSep_empty]
  iempintro
theorem start_QY : (atPos ER (cellAt c ycS) 0 ∅ 0 : sProp 𝕄) ⊢ QY m c 0 := by
  unfold QY
  iintro H
  iexists ∅
  isplitr; · ipureintro; exact ⟨Finset.empty_subset _, Nat.zero_le _⟩
  isplitl [H]; · iexact H
  rw [bigSep_empty]
  iempintro

theorem start_of : iprop(Ctx m ∗ Ready m c ∗ Blk (FrX c) 0 4 ∗ Blk (FrY c) 0 3 ∗ Blk (FrL c) 0 3) ⊢ Start m c := by
  unfold Ready Deal perSem Own ForX ForY Start
  iintro ⟨#HC, ⟨⟨⟨⟨Hxs, Hxr⟩, ⟨Hys, Hyr⟩, Hls, ⟨Hxc, Hyc⟩, Hb⟩, ⟨T0, T2, T4⟩, ⟨T1, T5, T7⟩, ⟨T3, T6, T8⟩, ⟨Rt, Rf⟩, Wt, Wf⟩, ⟨CX, CY, CC, CD, CB⟩, HA⟩, FX, FY, FL⟩
  ihave HtX := (start_tX (F := F) c) $$ [Rt T5 FX]
  · isplitl [Rt]; · iexact Rt
    isplitl [T5] <;> iassumption
  icases HtX with ⟨HtX, HrX⟩
  ihave HtY := (start_tY (F := F) c) $$ [Rf T6 FY]
  · isplitl [Rf]; · iexact Rf
    isplitl [T6] <;> iassumption
  icases HtY with ⟨HtY, HrY⟩
  isplitl [T0 T1 Wt]
  · iapply (start_aX (F := F) c)
    isplitl [T0]; · iexact T0
    isplitl [T1] <;> iassumption
  isplitl [Hxc]; · iapply (start_QX m c); iexact Hxc
  isplitl [CC]; · iexact CC
  isplitl [T4]; · iexact T4
  isplitl [Hyc]; · iapply (start_QY m c); iexact Hyc
  isplitl [CD]; · iexact CD
  isplitl [CX Hxs Hxr T2 T3 Wf]
  · iapply (show iprop(Blk (cX c) 0 16 ∗ Blk (pX c) 0 4 ∗ Blk (aY c) 0 16) ⊢ (SC c 0 : sProp 𝕄) from .rfl)
    isplitl [CX]; · iexact CX
    isplitl [Hxs Hxr]
    · iapply (start_pX m c)
      isplitr; · iexact HC
      isplitl [Hxs] <;> iassumption
    iapply (start_aY (F := F) c)
    isplitl [T2]; · iexact T2
    isplitl [T3] <;> iassumption
  isplitl [CY Hys Hyr Hls]
  · iapply (show iprop(Blk (cY c) 0 16 ∗ Blk (pY c) 0 3 ∗ Blk (pL c) 0 3) ⊢ (SD c 0 : sProp 𝕄) from .rfl)
    isplitl [CY]; · iexact CY
    isplitl [Hys Hyr]
    · iapply (start_pY m c)
      isplitr; · iexact HC
      isplitl [Hys] <;> iassumption
    iapply (start_pL m c)
    isplitr <;> iassumption
  isplitl [HtX]; · iexact HtX
  isplitl [HrX]; · iexact HrX
  isplitl [HtY]; · iexact HtY
  isplitl [HrY]; · iexact HrY
  isplitl [FL]; · iexact FL
  isplitl [T7 T8 Hb CB]
  · isplitl [T7]; · iapply (show (tk (xp c) 7 0 : sProp 𝕄) ⊢ dutyTok ER (cellAt (xp c) barS) 0 0 from .rfl); iexact T7
    isplitl [T8]; · iapply (show (tk (yp c) 7 1 : sProp 𝕄) ⊢ dutyTok ER (cellAt (yp c) barS) 0 1 from .rfl); iexact T8
    isplitl [Hb] <;> iassumption
  iexact HA

end

end Cert.KIProof

end
-- ==== Proof.Run.lean ====
/- The run of the sixteen devices. -/
module

public import proofs.«01_k».proof.Proof.Ready
public import Idealize.ShloMosaic.Lib.Pipeline.CollectiveSegs

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable (ρ : Dev nD → PrngReg) (c : Dev nD)

/-! ## Into the kernel and out of it -/

theorem share_eq (w : Fin cfg0.W) : (dats m ρ 0 c).share w = fullShare := by unfold Dat.share; split <;> rfl

/-- What device `c` brings into the kernel. -/
def Enter : sProp 𝕄 := iprop(Ctx m ∗ Ready m c)
/-- What it takes out. -/
def Leave : sProp 𝕄 := iprop(Arg m c ∗ unscopedSems0 c)

theorem enter_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Enter m c ∗ emp) := by
  rw [Pipeline.unscopedRestP_none, show Pipeline.unscopedRest cfg0.spec c (fun b => m ((c : Thread nD τ).loc b)) = _ from unscopedRest0_eq c _]
  unfold G' Enter Ready Ctx Know
  iintro ⟨HA, #HL, Hcr, -, ⟨#HI, #HS⟩, HD⟩
  ihave Hc := (creds (F := F) c) $$ Hcr
  imodintro
  isplitl
  · isplitr
    · isplitr; · iexact HI
      isplitr; · iexact HS
      unfold Levs; iexact HL
    isplitl [HD]; · iexact HD
    isplitl [Hc]; · iexact Hc
    unfold Arg
    iexists fullShare
    iexact HA
  · iempintro

theorem phi_first :
    iprop(Enter m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Ctx m ∗ Start m c) from rfl, show Pipeline.scopedRest cfg0.spec c = _ from scopedRest0_eq c]
  unfold Enter
  iintro ⟨⟨#HC, HR⟩, -, HX, HY, HL⟩
  isplitr; · iexact HC
  iapply (start_of m c)
  isplitr; · iexact HC
  isplitl [HR]; · iexact HR
  isplitl [HX]; · iapply (split_x (F := F) c); iexact HX
  isplitl [HY]; · iapply (split_y (F := F) c); iexact HY
  iapply (split_l (F := F) c); iexact HL

/-- Three parts whose last bounds are a whole turn away from the first. -/
theorem blk_turn {Φ Ψ : ℕ → sProp 𝕄} (h0 : Φ 18 = Ψ 0) (h1 : Φ 16 = Ψ 1) (h2 : Φ 17 = Ψ 2) : Blk Φ 16 19 ⊢ Blk Ψ 0 3 := by
  rw [show Blk Φ 16 19 = _ from blk_three Φ 16, show Blk Ψ 0 3 = _ from blk_three Ψ 0, h1, show Φ (16 + 1) = Ψ 2 from h2, show Φ (16 + 2) = Ψ 0 from h0]
  iintro ⟨H1, H2, H0⟩
  isplitl [H0]; · iexact H0
  isplitl [H1] <;> iassumption

theorem ends_sems : iprop((Blk (zX c) 16 20 ∗ Blk (zY c) 16 19 ∗ Blk (zL c) 16 19 ∗ semVal (cellAt c xcS) 0 ∗ semVal (cellAt c ycS) 0) ∗ semVal (cellAt c barS) 0)
    ⊢ iprop(Pipeline.ownSems0 (Ix := ℕ) (Name := ℕ) (U := UU) (Lvl := ℕ) (Val := Elt F) (τ := τ) osem c ∗ unscopedSems0 c) := by
  rw [sems_eq]
  unfold perSem
  iintro ⟨⟨HX, HY, HL, Hc⟩, Hb⟩
  isplitl [HX]
  · iapply (Entails.of_eq (show (Blk (zX c) 16 20 : sProp 𝕄) = _ from bigSep_sep' _ _ _))
    iexact HX
  isplitl [HY]
  · ihave HY := (Entails.of_eq (show (Blk (zY c) 16 19 : sProp 𝕄) = _ from bigSep_sep' _ _ _)) $$ HY
    icases HY with ⟨H1, H2⟩
    isplitl [H1]
    · iapply (blk_turn (Φ := fun b => semVal (cellAt c (ysS b)) 0) (Ψ := fun b => semVal (cellAt c (ysS b)) 0) rfl rfl rfl); iexact H1
    iapply (blk_turn (Φ := fun b => semVal (cellAt c (yrS b)) 0) (Ψ := fun b => semVal (cellAt c (yrS b)) 0) rfl rfl rfl); iexact H2
  isplitl [HL]
  · iapply (blk_turn (Φ := zL c) (Ψ := fun b => semVal (cellAt c (lsS b)) 0) rfl rfl rfl); iexact HL
  isplitl [Hc] <;> iassumption

theorem phi_last :
    (dats m ρ 0 c).Φ (Fin.last cfg0.N) ⊢ iprop(Leave m c ∗ Pipeline.ownSems0 osem c ∗ Pipeline.scopedRest cfg0.spec c) := by
  rw [show (dats m ρ 0 c).Φ (Fin.last cfg0.N) = iprop(Ctx m ∗ End m c) from rfl, show Pipeline.scopedRest cfg0.spec c = _ from scopedRest0_eq c]
  unfold End Leave
  iintro ⟨-, Hz, ⟨HX, HY, HL⟩, HA, Hb⟩
  ihave Hs := (ends_sems (F := F) c) $$ [Hz Hb]
  · isplitl [Hz] <;> iassumption
  icases Hs with ⟨Ho, Hu⟩
  isplitl [HA Hu]; · isplitl [HA] <;> iassumption
  isplitl [Ho]; · iexact Ho
  isplitl [HX]; · iapply (whole_x (F := F) c); iexact HX
  isplitl [HY]; · iapply (whole_y (F := F) c); iexact HY
  iapply (whole_l (F := F) c); iexact HL

theorem waits : (levAts L lv : sProp 𝕄) ⊢ Pipeline.cellsWaits cfgs (dats m ρ) 0 0 c :=
  Pipeline.cellsWaits_intro cfgs (dats m ρ) 0 0 c fun w s t => by
    show _ ⊢ MayWait _ _ _ (owedN c t.val)
    unfold owedN
    split
    · refine may_of c _ 0 _ (by omega) fun g ι h => ?_
      have hO : 0 < OO c 0 0 4 3 g ι → g.1.2 = .tc ∧ 0 < ι ∧ ι < 300 := fun h => by
        obtain ⟨h1, i, hi, h2⟩ := OO_pos c h
        refine ⟨h1, ?_⟩
        rcases h2 with ⟨h2, rfl⟩ | ⟨h2, rfl⟩ | ⟨h2, rfl⟩ | ⟨h2, rfl⟩
        · unfold lx; omega
        · unfold ly; omega
        · unfold lxc; omega
        · unfold lyc; omega
      rcases add_pos_of (T := OB c) h with h | h
      · rcases add_pos_of (T := OO c 0 0 4 3) h with h | h
        · exact hO h
        · obtain ⟨rfl, rfl⟩ := tallyAt_pos_of h; exact ⟨rfl, by omega, by omega⟩
      · obtain ⟨rfl, rfl⟩ := tallyAt_pos_of h; exact ⟨rfl, by omega, by omega⟩
    · split
      · rw [MayWait_zero]; iintro -; iempintro
      · exact may_OO c _ 0 _ _ _ _ (by omega) (by omega) (by omega) (by omega) (by omega)

/-! ## The run -/

/-- What a window's array holds in the end. -/
def finalA (w : Fin cfg0.W) : Buf (Elt F) ((cfg0.win w).arr.view.loc (c : Thread nD τ)) := (dats m ρ 0 c).arrAt w cfg0.N

/-- What a final state satisfies: the windows' arrays hold what the steps left, and the operand is unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

/-- On leaving, the operand's contents and the counters are read off the state. -/
theorem leave_read (s' : Phys nD τ sig (Elt F)) : iprop(Leave m c ∗ SI s')
    ⊢ |={Set.univ}=> iprop(⌜s'.mem.mem ((c : Thread nD τ).loc main_arg0) = m ((c : Thread nD τ).loc main_arg0)
        ∧ ∀ sm : SemLoc sig, sm.isScoped .tc = false → s'.mem.sem ((c.tc : Thread nD τ), sm) = 0⌝ ∗ SI s') := by
  unfold Leave Arg
  iintro ⟨⟨⟨%q, HA⟩, Hu⟩, HSI⟩
  ihave H := (Idealize.ShloMosaic.pointsTo_read_all ({0} : Finset (Fin 1)) (fun _ => (c : Thread nD τ).loc main_arg0) (fun _ => m ((c : Thread nD τ).loc main_arg0)) s' q) $$ [HA HSI]
  · isplitl [HA]
    · rw [bigSep_singleton]; iexact HA
    iexact HSI
  icases H with ⟨%h, HSI⟩
  imod (Pipeline.unscopedSems0_read (X := unscopedSems0 c) (c := c) fupd_intro s') $$ [Hu HSI] with ⟨%h', HSI⟩
  · isplitl [Hu] <;> iassumption
  imodintro
  isplitr; · ipureintro; exact ⟨h 0 (Finset.mem_singleton_self _), h'⟩
  iexact HSI

set_option maxRecDepth 8000 in
/-- From any memory with zero counters, for any float values: every weakly fair execution of the sixteen devices
    terminates, and in every final state each device's output holds what the steps left, its arguments are unchanged
    and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      imod (fund m) $$ HX with HG
      imodintro
      isplitl [HP] <;> iassumption)
    (hglob := glob m)
    (hA := fun _ _ => rfl) (hpf := fun _ k => k.elim0)
    (X := Enter m) (Y := Leave m) (Z := fun _ => iprop(emp))
    (hX := enter_intro m ρ) (hin := phi_first m ρ) (hout := phi_last m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨Hu, -, HSI⟩
      iapply (leave_read m c s')
      isplitl [Hu] <;> iassumption)
    (hQ := fun _ h hs => ⟨fun c => ⟨fun w => (h c).1 w, (h c).2.2.1⟩, sem_eq_zero hs fun c => (h c).2.2.2⟩)

theorem finalA_res : finalA m ρ c 0 = m ((c : Thread nD τ).loc main_arg1) := (dats (F := F) m ρ 0 c).arrAt_in 0 rfl _
theorem finalA_gam : finalA m ρ c 1 = m ((c : Thread nD τ).loc main_arg2) := (dats (F := F) m ρ 0 c).arrAt_in 1 rfl _

end

end Cert.KIProof

end
-- ==== Proof.Norm.lean ====
/- The arithmetic of a finished row. -/
module

public import proofs.«01_k».proof.Proof.Finish
public import Idealize.ShloMosaic.Lib.Pointwise

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- Element `l` of a row `y`, divided by the root of its mean square and scaled by `g`, as the kernel computes it. -/
def normed (y : Fin 2048 → EReal) (g : EReal) (l : Fin 2048) : EReal :=
  y l * Ideal.rsqrt (Ideal.div (∑ k, y k * y k) (Ideal.ofBits FTy.f32 1157627904#32) + Ideal.ofBits FTy.f32 897988541#32) * g
/-- The same as the reference computes it. -/
def rooted (y : Fin 2048 → EReal) (g : EReal) (l : Fin 2048) : EReal :=
  Ideal.div (y l) (Ideal.sqrt (Ideal.div (∑ k, y k * y k) (Ideal.ofBits FTy.f32 1157627904#32) + Ideal.ofBits FTy.f32 897988541#32)) * g

/-- The half exchanged along the rows, finished, at an index. -/
theorem dir_apply (A B : Vec Ideal S1x256x2048 .bf16) (R : Vec Ideal S256x2048 .bf16) (G : Vec Ideal S2048 .bf16) (r : Fin 256) (l : Fin 2048) :
    k0_pay3 (F := Ideal) (k0_pay2 (F := Ideal) A B R) G (ix2 r l)
      = normed (fun k => A (ix3 0 r k) + B (ix3 0 r k) + R (ix2 r k)) (G (ix1 l)) l := by
  pointwise [k0_pay3, k0_pay2]
  rfl
/-- The half forwarded, finished, at an index. -/
theorem fwd_apply (A B : Vec Ideal S1x256x2048 .bf16) (R : Vec Ideal S256x2048 .bf16) (G : Vec Ideal S2048 .bf16) (r : Fin 256) (l : Fin 2048) :
    k0_pay1 (F := Ideal) (k0_pay4 (F := Ideal) A) B R G (ix2 r l)
      = normed (fun k => A (ix3 0 r k) + B (ix3 0 r k) + R (ix2 r k)) (G (ix1 l)) l := by
  pointwise [k0_pay1, k0_pay4]
  rfl

/-! ## The two quotients agree -/

/-- The divisor of the mean is 2048. -/
theorem count_eq : Ideal.ofBits FTy.f32 1157627904#32 = ((2048 : ℝ) : EReal) := by
  simp [Ideal.ofBits, Ideal.ieee]
  rw [← EReal.coe_mul]
  norm_num
/-- The number added to the mean is real and positive. -/
theorem small_pos : ∃ e : ℝ, 0 < e ∧ Ideal.ofBits FTy.f32 897988541#32 = (e : EReal) := by
  refine ⟨_, ?_, by simp [Ideal.ofBits, Ideal.ieee]; rfl⟩
  positivity

/-- A square is not below zero. -/
theorem square_nonneg (a : EReal) : 0 ≤ a * a := by
  induction a with
  | bot => simp
  | top => simp
  | coe r => rw [← EReal.coe_mul]; exact_mod_cast mul_self_nonneg r

/-- Dividing by the root of a positive number and multiplying by its reciprocal root agree. -/
theorem div_sqrt (y v : EReal) (hv : 0 < v) : Ideal.div y (Ideal.sqrt v) = y * Ideal.rsqrt v := by
  induction v with
  | bot => simp at hv
  | top => simp [Ideal.div]
  | coe r =>
    have hr : 0 < r := by exact_mod_cast hv
    have hs : Real.sqrt r ≠ 0 := (Real.sqrt_pos.mpr hr).ne'
    rw [Ideal.sqrt_coe, Ideal.rsqrt_coe, if_neg (not_lt.mpr hr.le), if_neg (not_lt.mpr hr.le), if_neg hr.ne']
    unfold Ideal.div
    rw [if_neg (by exact_mod_cast hs), EReal.coe_inv]

/-- The kernel's and the reference's arithmetic of a row agree, for every row: the root is of a positive number or infinite. -/
theorem rooted_eq (y : Fin 2048 → EReal) (g : EReal) (l : Fin 2048) : rooted y g l = normed y g l := by
  unfold rooted normed
  rw [div_sqrt]
  obtain ⟨e, he, hE⟩ := small_pos
  rw [hE, count_eq]
  have hS : 0 ≤ ∑ k, y k * y k := Finset.sum_nonneg fun k _ => square_nonneg (y k)
  have hD : 0 ≤ Ideal.div (∑ k, y k * y k) ((2048 : ℝ) : EReal) := by
    unfold Ideal.div
    rw [if_neg (by exact_mod_cast (by norm_num : (2048 : ℝ) ≠ 0))]
    refine mul_nonneg hS ?_
    rw [← EReal.coe_inv]
    exact_mod_cast (by norm_num : (0 : ℝ) ≤ (2048 : ℝ)⁻¹)
  exact lt_of_lt_of_le (by exact_mod_cast he) (le_add_of_nonneg_left hD)

end Cert.KIProof

end
-- ==== Proof.Output.lean ====
/- The result array at an index. -/
module

public import proofs.«01_k».proof.Proof.Norm
public import proofs.«01_k».proof.Proof.Run
public import Idealize.ShloMosaic.Lib.Pipeline.ValueKit

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The output array -/

/-- The other part's device, for row `r`. -/
def oth (c : Dev nD) (r : ℕ) : Dev nD := if r % 512 / 256 = yc c then xp c else xp (yp c)

/-- The part a device is given, at row `r` and column `k`; the residual; the scale. -/
def partA (m : (ℓ : Loc nD τ sig) → Buf (Elt Ideal) ℓ) (c : Dev nD) (r : Fin 8192) (k : Fin 2048) : EReal :=
  m ((c : Thread nD τ).loc main_arg0) (ix3 0 r k)
def resA (m : (ℓ : Loc nD τ sig) → Buf (Elt Ideal) ℓ) (c : Dev nD) (r : Fin 8192) (k : Fin 2048) : EReal :=
  m ((c : Thread nD τ).loc main_arg1) (ix2 r k)
def gamA (m : (ℓ : Loc nD τ sig) → Buf (Elt Ideal) ℓ) (c : Dev nD) (k : Fin 2048) : EReal :=
  m ((c : Thread nD τ).loc main_arg2) (ix1 k)

/-- Row `r` of the sum device `c` takes. -/
def rowsum (m : (ℓ : Loc nD τ sig) → Buf (Elt Ideal) ℓ) (c : Dev nD) (r : Fin 8192) (k : Fin 2048) : EReal :=
  partA m c r k + partA m (oth c r.val) r k + resA m c r k

/-- What device `c`'s result array ends at. -/
def outA (m : (ℓ : Loc nD τ sig) → Buf (Elt Ideal) ℓ) (c : Dev nD) : FVec Ideal S8192x2048 .bf16 :=
  fun i => normed (rowsum m c (i 0)) (gamA m c (i 1)) (i 1)

/-- Half `h` of block `b` of a device's part, at an index of the part. -/
theorem XB_apply (d : Dev nD) (b h : ℕ) (a : Fin 256) (k : Fin 2048) (r : Fin 8192) (hr : r.val = 512 * (b % 16) + 256 * (h % 2) + a.val) :
    XB m d b h (ix2 a k) = m ((d : Thread nD τ).loc main_arg0) (ix3 0 r k) := by
  unfold XB
  show m ((d : Thread nD τ).loc main_arg0) ((Rect.unit (s := S1x8192x2048) ![0, 512 * (b % 16) + 256 * (h % 2), 0] S1x256x2048.size (inbR b h)).emb (Shape.reshapeEquiv _ (ix2 a k))) = _
  erw [ValueIdx.reshapeEquiv_ix2_1ab]
  congr 1
  funext z
  match z with
  | ⟨0, _⟩ => rfl
  | ⟨1, _⟩ => exact Fin.ext (by show 512 * (b % 16) + 256 * (h % 2) + 1 * a.val = r.val; omega)
  | ⟨2, _⟩ => exact Fin.ext (by show 0 + 1 * k.val = k.val; omega)

/-- Block `b` of a device's part, at an index of the part. -/
theorem LB_apply (d : Dev nD) (b : ℕ) (a : Fin 512) (k : Fin 2048) (r : Fin 8192) (hr : r.val = 512 * (b % 16) + a.val) :
    LB m d b (ix2 a k) = m ((d : Thread nD τ).loc main_arg0) (ix3 0 r k) := by
  unfold LB
  show m ((d : Thread nD τ).loc main_arg0) ((Rect.unit (s := S1x8192x2048) ![0, 512 * (b % 16), 0] S1x512x2048.size (inbK b)).emb (Shape.reshapeEquiv _ (ix2 a k))) = _
  erw [ValueIdx.reshapeEquiv_ix2_1ab]
  congr 1
  funext z
  match z with
  | ⟨0, _⟩ => rfl
  | ⟨1, _⟩ => exact Fin.ext (by show 512 * (b % 16) + 1 * a.val = r.val; omega)
  | ⟨2, _⟩ => exact Fin.ext (by show 0 + 1 * k.val = k.val; omega)
/-- A slot's contents, as a load yields them, at an index. -/
theorem up_apply (X : Vec F S256x2048 .bf16) (a : Fin 256) (k : Fin 2048) : up X (ix3 0 a k) = X (ix2 a k) := by
  pointwise [up]
/-- A half of a block's copy at an index of the copy. -/
theorem hv_apply (h : ℕ) (X : Vec F S512x2048 .bf16) (a : Fin 256) (k : Fin 2048) (b : Fin 512) (hb : b.val = 256 * (h % 2) + a.val) :
    hv h X (ix3 0 a k) = X (ix2 b k) := by
  unfold hv
  congr 1
  funext z
  match z with
  | ⟨0, _⟩ => exact Fin.ext hb.symm
  | ⟨1, _⟩ => rfl
/-- A half of a window's block at an index of the block. -/
theorem rv_apply (h : ℕ) (X : Vec F S512x2048 .bf16) (a : Fin 256) (k : Fin 2048) (b : Fin 512) (hb : b.val = 256 * (h % 2) + a.val) :
    rv h X (ix2 a k) = X (ix2 b k) := by
  unfold rv
  congr 1
  funext z
  match z with
  | ⟨0, _⟩ => exact Fin.ext hb.symm
  | ⟨1, _⟩ => rfl
/-- A point that writes a block back is the third or a later one, and its residual and output blocks are the one two before it. -/
theorem at_flush : ∀ t : Fin cfg0.N, (cfg0.win 2).flush t = true → 2 ≤ t.val ∧ win0_0.index t 0 = t.val - 2 ∧ win0_2.index t 0 = t.val - 2
    ∧ win0_0.index t 1 = 0 ∧ win0_2.index t 1 = 0 ∧ win0_1.index t 0 = 0 := by
  decide +kernel

/-- The residual's block at such a point, at an index of the residual. -/
theorem resB_apply (m : (ℓ : Loc nD τ sig) → Buf (Elt Ideal) ℓ) (c : Dev nD) (t : Fin cfg0.N) (hf : (cfg0.win 2).flush t = true) (a : Fin 512) (k : Fin 2048) (r : Fin 8192) (hr : r.val = 512 * (t.val - 2) + a.val) :
    resB m c t (ix2 a k) = resA m c r k := by
  obtain ⟨h2, e0, -, e1, -, -⟩ := at_flush t hf
  unfold resB iblk resA
  blk_ext [iblk, V, e0, e1]
/-- The scales at such a point are the whole argument. -/
theorem gamB_apply (m : (ℓ : Loc nD τ sig) → Buf (Elt Ideal) ℓ) (c : Dev nD) (t : Fin cfg0.N) (hf : (cfg0.win 2).flush t = true) (k : Fin 2048) :
    gamB m c t (ix1 k) = gamA m c k := by
  obtain ⟨h2, -, -, -, -, e1⟩ := at_flush t hf
  unfold gamB iblk gamA
  blk_ext [iblk, V, e1]

/-- A finished block, row by row. -/
theorem outv_apply (m : (ℓ : Loc nD τ sig) → Buf (Elt Ideal) ℓ) (c : Dev nD) (t : Fin cfg0.N) (hf : (cfg0.win 2).flush t = true) (a : Fin 512) (l : Fin 2048) (r : Fin 8192)
    (hr : r.val = 512 * (t.val - 2) + a.val) :
    outv m c (t.val - 2) (resB m c t) (gamB m c t) (ix2 a l) = normed (rowsum m c r) (gamA m c l) l := by
  have hN : t.val < 18 := lt_of_lt_of_eq t.isLt N_0
  have ha := a.isLt
  have hq : (t.val - 2) % 16 = t.val - 2 := Nat.mod_eq_of_lt (by omega)
  have hy := yc_lt c
  unfold outv
  show (if a.val / 256 = yc c then dirv m c (t.val - 2) (resB m c t) (gamB m c t) (ix2 ⟨a.val % 256, _⟩ l) else fwdv m c (t.val - 2) (resB m c t) (gamB m c t) (ix2 ⟨a.val % 256, _⟩ l)) = _
  have hrow : r.val % 512 / 256 = a.val / 256 := by omega
  by_cases hh : a.val / 256 = yc c
  · rw [if_pos hh]
    unfold dirv
    rw [dir_apply, gamB_apply m c t hf]
    congr 1
    funext k
    unfold rowsum oth
    rw [if_pos (hrow.trans hh), up_apply, hv_apply (b := a) (hb := by show a.val = _ + a.val % 256; omega), rv_apply (b := a) (hb := by show a.val = _ + a.val % 256; omega),
      resB_apply m c t hf a k r hr, LB_apply (r := r) (hr := by omega), XB_apply (r := r) (hr := by show r.val = _ + a.val % 256; omega)]
    rfl
  · rw [if_neg hh]
    unfold fwdv
    rw [fwd_apply, gamB_apply m c t hf]
    congr 1
    funext k
    unfold rowsum oth
    rw [if_neg (fun h => hh (hrow.symm.trans h)), up_apply, hv_apply (b := a) (hb := by show a.val = _ + a.val % 256; omega), rv_apply (b := a) (hb := by show a.val = _ + a.val % 256; omega),
      resB_apply m c t hf a k r hr, LB_apply (r := r) (hr := by omega), XB_apply (r := r) (hr := by show r.val = _ + a.val % 256; omega)]
    rfl

/-- The result array at the end of the run. -/
theorem finalA_out (m : (ℓ : Loc nD τ sig) → Buf (Elt Ideal) ℓ) (ρ : Dev nD → PrngReg) (c : Dev nD) : finalA m ρ c 2 = outA m c := by
  unfold finalA
  refine (dats m ρ 0 c).arrAt_eq_of_covers 2 _ (by decide +kernel) fun t hf y => ?_
  obtain ⟨h2, -, e0, -, e1, -⟩ := at_flush t hf
  have hN : t.val < 18 := lt_of_lt_of_eq t.isLt N_0
  have hy : (y 0).val < 512 := (y 0).isLt
  have he : (win0_2.blk t).view.emb y = (ix2 ⟨512 * (t.val - 2) + (y 0).val, by omega⟩ ⟨(y 1).val, (y 1).isLt⟩ : S8192x2048.Idx) := by
    blk_ext [e0, e1]
  blk_simp
  rw [he]
  refine (congrArg _ (eq_ix2 y)).trans ((outv_apply m c t hf (y 0) (y 1) ⟨512 * (t.val - 2) + (y 0).val, by omega⟩ rfl).trans ?_)
  rfl

end Cert.KIProof

end
-- ==== Proof.Refout.lean ====
/- The reference's result at an index. -/
module

public import proofs.«01_k».proof.Proof.Norm
public import proofs.«01_k».proof.Proof.Gen.ReferenceIdeal.Run

@[expose] public section

noncomputable section

namespace Cert.RefValue

open Cert.ReferenceIdeal Cert.ReferenceIdeal.Gen

open Idealize.ShloMosaic
open Idealize.ShloMosaic.TcCoe
open Idealize.SL.Sem

/-- The sum of the two parts and the residual, as the reference computes it. -/
def total (P : FVec Ideal S2x8192x2048 .bf16) (R : FVec Ideal S8192x2048 .bf16) : FVec Ideal S8192x2048 .f32 :=
  addf (Host.reduceAdd (extf .f32 P bitsLt_bf16_f32) (constant S_ .f32 0x00000000#32) reducesTo_S2x8192x2048_S8192x2048_d0 h_S_)
    (extf .f32 R bitsLt_bf16_f32)

/-- The reference's result. -/
def refOut (P : FVec Ideal S2x8192x2048 .bf16) (R : FVec Ideal S8192x2048 .bf16) (G : FVec Ideal S2048 .bf16) : FVec Ideal S8192x2048 .bf16 :=
  truncf .bf16 (mulf (Host.divf (total P R) (broadcastInDim S8192x2048 ![0, 1] bcast_S8192x1_S8192x2048_0_1 (Host.sqrt (addf (Host.divf (broadcastInDim S8192x1 ![0] bcast_S8192_S8192x1_0
    (Host.reduceAdd (mulf (total P R) (total P R)) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 (extf .f32 G bitsLt_bf16_f32)))) bitsLt_bf16_f32

/-- The sum at an index. -/
theorem total_apply (P : FVec Ideal S2x8192x2048 .bf16) (R : FVec Ideal S8192x2048 .bf16) (r : Fin 8192) (l : Fin 2048) :
    total P R (ix2 r l) = P (ix3 0 r l) + P (ix3 1 r l) + R (ix2 r l) := by
  pointwise [total]
  rw [Fin.sum_univ_two]

/-- The reference's result at an index: a row of the sum, divided by the root of its mean square and scaled. -/
theorem refOut_apply (P : FVec Ideal S2x8192x2048 .bf16) (R : FVec Ideal S8192x2048 .bf16) (G : FVec Ideal S2048 .bf16)
    (r : Fin 8192) (l : Fin 2048) :
    refOut P R G (ix2 r l) = Cert.KIProof.rooted (fun k => P (ix3 0 r k) + P (ix3 1 r k) + R (ix2 r k)) (G (ix1 l)) l := by
  have h : refOut P R G (ix2 r l) = Cert.KIProof.rooted (fun k => total P R (ix2 r k)) (G (ix1 l)) l := by
    pointwise [refOut]
    rfl
  rw [h]
  simp only [total_apply]

/-- The reference's run. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread _ τ).loc main_v18)
          = refOut (m ((c.tc : Thread _ _).loc main_arg0)) (m ((c.tc : Thread _ _).loc main_arg1)) (m ((c.tc : Thread _ _).loc main_arg2))
      ∧ r.2.mem ((c.tc : Thread _ τ).loc main_arg0) = m ((c.tc : Thread _ _).loc main_arg0)
      ∧ r.2.mem ((c.tc : Thread _ τ).loc main_arg1) = m ((c.tc : Thread _ _).loc main_arg1)
      ∧ r.2.mem ((c.tc : Thread _ τ).loc main_arg2) = m ((c.tc : Thread _ _).loc main_arg2) :=
  Cert.ReferenceIdeal.Value.run (F := Ideal) m ρ

end Cert.RefValue

end
-- ==== Proof.Agree.lean ====
/- The result array and the reference's result agree. -/
module

public import proofs.«01_k».proof.Proof.Output
public import proofs.«01_k».proof.Proof.Refout

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- Which of the two parts a device is given. -/
def px (c : Dev nD) : Fin 2 := ⟨c.val / 8, by have := c.isLt; simp only [nD] at *; omega⟩

/-- The part a device is given is the block its mesh coordinates name. -/
theorem px_block : ∀ c : Dev nD, ((Layout.meshBlock [2, 2, 4] ![[0], [], []] c) (0 : Fin 3)).val = (px c).val := by decide +kernel
/-- The x partner has the other part,  -/
theorem px_xp : ∀ c : Dev nD, px (xp c) = 1 - px c := by decide +kernel
/-- as has the x partner of the y partner,  -/
theorem px_xpyp : ∀ c : Dev nD, px (xp (yp c)) = 1 - px c := by decide +kernel
/-- so whichever device the other half comes from has the other part. -/
theorem px_oth (c : Dev nD) (r : ℕ) : px (oth c r) = 1 - px c := by
  unfold oth
  by_cases h : r % 512 / 256 = yc c
  · rw [if_pos h]; exact px_xp c
  · rw [if_neg h]; exact px_xpyp c

variable (m : (ℓ : Loc nD τ sig) → Buf (Elt Ideal) ℓ) (P : FVec Ideal Cert.ReferenceIdeal.S2x8192x2048 .bf16)

/-- What a device is given, in the whole array of the two parts. -/
theorem partA_block (c : Dev nD)
    (h : m ((c : Thread nD τ).loc main_arg0) = Layout.blockN ⟨3, ![1, 8192, 2048]⟩ ⟨3, ![2, 8192, 2048]⟩ (Layout.meshBlock [2, 2, 4] ![[0], [], []] c) P)
    (r : Fin 8192) (k : Fin 2048) : partA m c r k = P (ix3 (px c) r k) := by
  unfold partA
  rw [h]
  show P _ = P _
  congr 1
  funext z
  match z with
  | ⟨0, _⟩ => exact Fin.ext ((by show _ * 1 + 0 = _; rw [Nat.mul_one, Nat.add_zero]; exact px_block c))
  | ⟨1, _⟩ => exact Fin.ext (by show 0 * 8192 + r.val = r.val; omega)
  | ⟨2, _⟩ => exact Fin.ext (by show 0 * 2048 + k.val = k.val; omega)

/-- Every device ends with the reference's result. -/
theorem outA_eq (R : FVec Ideal Cert.ReferenceIdeal.S8192x2048 .bf16) (G : FVec Ideal Cert.ReferenceIdeal.S2048 .bf16)
    (h0 : ∀ c : Dev nD, m ((c : Thread nD τ).loc main_arg0) = Layout.blockN ⟨3, ![1, 8192, 2048]⟩ ⟨3, ![2, 8192, 2048]⟩ (Layout.meshBlock [2, 2, 4] ![[0], [], []] c) P)
    (h1 : ∀ c : Dev nD, m ((c : Thread nD τ).loc main_arg1) = R) (h2 : ∀ c : Dev nD, m ((c : Thread nD τ).loc main_arg2) = G) (c : Dev nD) :
    outA m c = Cert.RefValue.refOut P R G := by
  funext i
  obtain ⟨r, l, rfl⟩ : ∃ (r : Fin 8192) (l : Fin 2048), i = ix2 r l := ⟨i 0, i 1, eq_ix2 i⟩
  refine Eq.trans ?_ ((Cert.RefValue.refOut_apply P R G r l).trans (rooted_eq _ _ _)).symm
  show normed (rowsum m c r) (gamA m c l) l = _
  have hg : gamA m c l = G (ix1 l) := by unfold gamA; rw [h2 c]
  have hs : rowsum m c r = fun k => P (ix3 0 r k) + P (ix3 1 r k) + R (ix2 r k) := by
    funext k
    unfold rowsum
    rw [partA_block m P c (h0 c), partA_block m P (oth c r.val) (h0 _), px_oth]
    have hr : resA m c r k = R (ix2 r k) := by unfold resA; rw [h1 c]
    rw [hr]
    congr 1
    rcases (by have := (px c).isLt; rcases (by omega : (px c).val = 0 ∨ (px c).val = 1) with h | h; exact .inl (Fin.ext h); exact .inr (Fin.ext h) : px c = 0 ∨ px c = 1) with h | h
    · rw [h]; rfl
    · rw [h]; exact add_comm _ _
  rw [hg, hs]

end Cert.KIProof

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- At any float values the run keeps the arguments and ends with every counter at zero. -/
theorem frame_at {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun _ h => ⟨fun c => ⟨(h.1 c).2, ((h.1 c).1 0).trans (Cert.KIProof.finalA_res m g c), ((h.1 c).1 1).trans (Cert.KIProof.finalA_gam m g c)⟩, h.2⟩)
    (Cert.KIProof.run_main m g)

/-- The kernel and its idealization have the same bodies, -/
theorem bodies_eq : Cert.Kernel.defs₀ (F := Bits) = Cert.KernelIdeal.defs₀ (F := Bits) := by
  unfold Cert.Kernel.defs₀ Cert.KernelIdeal.defs₀
  congr 1
  funext l
  match l with
  | 0 =>
    funext x
    obtain ⟨t, s⟩ := x
    exact rfl
/-- and so the same body table. -/
theorem defs_eq : Cert.Kernel.defs (F := Bits) = Cert.KernelIdeal.defs (F := Bits) :=
  congrArg (fun d => Pipeline.defs Cert.KernelIdeal.pcfgs d) bodies_eq

/-- The kernel, at the bit patterns, runs, keeps its arguments and ends with every counter at zero: its text is its idealization's. -/
theorem frame_kernel : Cert.quiescent_Kernel := fun m g _ => by
  rw [defs_eq]
  exact frame_at (F := Bits) m g

/-- The same of the idealization. -/
theorem frame_kernelIdeal : Cert.quiescent_KernelIdeal := fun m g _ => frame_at (F := Ideal) m g

/-- The reference runs and keeps its arguments; it declares no semaphore. -/
theorem frame_referenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- On every device the kernel's result is the reference's, over the extended reals. -/
theorem algebraic : Cert.algebraic_KernelIdeal_ReferenceIdeal := fun m g m' g' _ hag =>
  ⟨Cert.RefValue.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨((h.1 c).1 2).trans ((Cert.KIProof.finalA_out m g c).trans
          (Cert.KIProof.outA_eq m _ _ _ (fun d => (hag d).1) (fun d => (hag d).2.1) (fun d => (hag d).2.2) c)),
        (h.1 c).2, ((h.1 c).1 0).trans (Cert.KIProof.finalA_res m g c), ((h.1 c).1 1).trans (Cert.KIProof.finalA_gam m g c)⟩)
      (Cert.KIProof.run_main (F := Ideal) m g),
    (θ_run Cert.ReferenceIdeal.defs _ _).mono (fun _ h => h 0) (Cert.RefValue.run_ref m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
